-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_n" .f32 0x3727C5AC#32 ((1 / 100000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v394) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x100000x128 : Shape := ⟨3, ![8, 100000, 128]⟩
abbrev S2x128x128 : Shape := ⟨3, ![2, 128, 128]⟩
abbrev S2x1x256 : Shape := ⟨3, ![2, 1, 256]⟩
abbrev S2x1x128x128 : Shape := ⟨4, ![2, 1, 128, 128]⟩
abbrev S2x1x1 : Shape := ⟨3, ![2, 1, 1]⟩
abbrev S2x1 : Shape := ⟨2, ![2, 1]⟩
abbrev S16x512 : Shape := ⟨2, ![16, 512]⟩
abbrev S16x256x256 : Shape := ⟨3, ![16, 256, 256]⟩
abbrev S16 : Shape := ⟨1, ![16]⟩
abbrev S8x16 : Shape := ⟨2, ![8, 16]⟩
abbrev S4x8 : Shape := ⟨2, ![4, 8]⟩
abbrev S2x4 : Shape := ⟨2, ![2, 4]⟩
abbrev S1x2 : Shape := ⟨2, ![1, 2]⟩
abbrev S2x1x128 : Shape := ⟨3, ![2, 1, 128]⟩
abbrev S2x128 : Shape := ⟨2, ![2, 128]⟩
abbrev S2 : Shape := ⟨1, ![2]⟩
abbrev S8x2x128 : Shape := ⟨3, ![8, 2, 128]⟩
abbrev S1x10000x128 : Shape := ⟨3, ![1, 10000, 128]⟩
abbrev S1x2x128 : Shape := ⟨3, ![1, 2, 128]⟩
abbrev S10000x128 : Shape := ⟨2, ![10000, 128]⟩
abbrev S128 : Shape := ⟨1, ![128]⟩
abbrev S1x128 : Shape := ⟨2, ![1, 128]⟩
abbrev S8x2x2x128 : Shape := ⟨4, ![8, 2, 2, 128]⟩
abbrev S1x2x2x128 : Shape := ⟨4, ![1, 2, 2, 128]⟩
abbrev S1x128x128 : Shape := ⟨3, ![1, 128, 128]⟩
abbrev S128x128 : Shape := ⟨2, ![128, 128]⟩
abbrev S1 : Shape := ⟨1, ![1]⟩
abbrev S1x1 : Shape := ⟨2, ![1, 1]⟩
abbrev S4x128 : Shape := ⟨2, ![4, 128]⟩
abbrev S10000x4 : Shape := ⟨2, ![10000, 4]⟩
abbrev S10000x1 : Shape := ⟨2, ![10000, 1]⟩
abbrev S10000x2 : Shape := ⟨2, ![10000, 2]⟩
abbrev S2x2x128 : Shape := ⟨3, ![2, 2, 128]⟩
abbrev S1x1x128 : Shape := ⟨3, ![1, 1, 128]⟩
abbrev S10000x256 : Shape := ⟨2, ![10000, 256]⟩
abbrev S2x256 : Shape := ⟨2, ![2, 256]⟩
abbrev S8x2x256 : Shape := ⟨3, ![8, 2, 256]⟩
abbrev S8x1x256 : Shape := ⟨3, ![8, 1, 256]⟩
abbrev S8x256 : Shape := ⟨2, ![8, 256]⟩
abbrev S1x16 : Shape := ⟨2, ![1, 16]⟩
abbrev S8x1 : Shape := ⟨2, ![8, 1]⟩
abbrev S16x256 : Shape := ⟨2, ![16, 256]⟩
abbrev S1x256x256 : Shape := ⟨3, ![1, 256, 256]⟩
abbrev S256x256 : Shape := ⟨2, ![256, 256]⟩
abbrev S8 : Shape := ⟨1, ![8]⟩
abbrev S8x8 : Shape := ⟨2, ![8, 8]⟩
abbrev S8x4 : Shape := ⟨2, ![8, 4]⟩
abbrev S8x2 : Shape := ⟨2, ![8, 2]⟩

abbrev nBuf : Space → Nat
  | .hbm => 31
  | .vmem => 42
  | .smem => 4
  | _ => 0

abbrev bufTy : (tb : Table) → Fin (tcTables nBuf tb) → BufTy
  | .hbm, ⟨0, _⟩ => ⟨S8x100000x128, .f32⟩
  | .hbm, ⟨1, _⟩ => ⟨S8x100000x128, .f32⟩
  | .hbm, ⟨2, _⟩ => ⟨S2x128x128, .f32⟩
  | .hbm, ⟨3, _⟩ => ⟨S2x1x256, .f32⟩
  | .hbm, ⟨4, _⟩ => ⟨S2x1x128x128, .f32⟩
  | .hbm, ⟨5, _⟩ => ⟨S2x1x1, .f32⟩
  | .hbm, ⟨6, _⟩ => ⟨S2x1, .f32⟩
  | .hbm, ⟨7, _⟩ => ⟨S16x512, .f32⟩
  | .hbm, ⟨8, _⟩ => ⟨S16x256x256, .f32⟩
  | .hbm, ⟨9, _⟩ => ⟨S16, .f32⟩
  | .hbm, ⟨10, _⟩ => ⟨S8x16, .f32⟩
  | .hbm, ⟨11, _⟩ => ⟨S4x8, .f32⟩
  | .hbm, ⟨12, _⟩ => ⟨S2x4, .f32⟩
  | .hbm, ⟨13, _⟩ => ⟨S1x2, .f32⟩
  | .hbm, ⟨14, _⟩ => ⟨S2x1x128, .f32⟩
  | .hbm, ⟨15, _⟩ => ⟨S2x128, .f32⟩
  | .hbm, ⟨16, _⟩ => ⟨S2x1x128, .f32⟩
  | .hbm, ⟨17, _⟩ => ⟨S2x128, .f32⟩
  | .hbm, ⟨18, _⟩ => ⟨S2x128x128, .f32⟩
  | .hbm, ⟨19, _⟩ => ⟨S2, .f32⟩
  | .hbm, ⟨20, _⟩ => ⟨S2, .f32⟩
  | .hbm, ⟨21, _⟩ => ⟨S8x2x128, .f32⟩
  | .hbm, ⟨22, _⟩ => ⟨S8x2x2x128, .f32⟩
  | .hbm, ⟨23, _⟩ => ⟨S8x2x2x128, .f32⟩
  | .hbm, ⟨24, _⟩ => ⟨S8x2x256, .f32⟩
  | .hbm, ⟨25, _⟩ => ⟨S8x1x256, .f32⟩
  | .hbm, ⟨26, _⟩ => ⟨S8x256, .f32⟩
  | .hbm, ⟨27, _⟩ => ⟨S8x1x256, .f32⟩
  | .hbm, ⟨28, _⟩ => ⟨S8x256, .f32⟩
  | .hbm, ⟨29, _⟩ => ⟨S1x16, .f32⟩
  | .hbm, ⟨30, _⟩ => ⟨S8x1, .f32⟩
  | .local _ .vmem, ⟨0, _⟩ => ⟨S1x10000x128, .f32⟩
  | .local _ .vmem, ⟨1, _⟩ => ⟨S1x10000x128, .f32⟩
  | .local _ .vmem, ⟨2, _⟩ => ⟨S1x10000x128, .f32⟩
  | .local _ .vmem, ⟨3, _⟩ => ⟨S1x10000x128, .f32⟩
  | .local _ .vmem, ⟨4, _⟩ => ⟨S1x2x128, .f32⟩
  | .local _ .vmem, ⟨5, _⟩ => ⟨S1x2x128, .f32⟩
  | .local _ .vmem, ⟨6, _⟩ => ⟨S1x10000x128, .f32⟩
  | .local _ .vmem, ⟨7, _⟩ => ⟨S1x10000x128, .f32⟩
  | .local _ .vmem, ⟨8, _⟩ => ⟨S1x10000x128, .f32⟩
  | .local _ .vmem, ⟨9, _⟩ => ⟨S1x10000x128, .f32⟩
  | .local _ .vmem, ⟨10, _⟩ => ⟨S1x2x128, .f32⟩
  | .local _ .vmem, ⟨11, _⟩ => ⟨S1x2x128, .f32⟩
  | .local _ .vmem, ⟨12, _⟩ => ⟨S2x128x128, .f32⟩
  | .local _ .vmem, ⟨13, _⟩ => ⟨S2x128x128, .f32⟩
  | .local _ .vmem, ⟨14, _⟩ => ⟨S2x128, .f32⟩
  | .local _ .vmem, ⟨15, _⟩ => ⟨S2x128, .f32⟩
  | .local _ .vmem, ⟨16, _⟩ => ⟨S1x2x2x128, .f32⟩
  | .local _ .vmem, ⟨17, _⟩ => ⟨S1x2x2x128, .f32⟩
  | .local _ .vmem, ⟨18, _⟩ => ⟨S1x10000x128, .f32⟩
  | .local _ .vmem, ⟨19, _⟩ => ⟨S1x10000x128, .f32⟩
  | .local _ .vmem, ⟨20, _⟩ => ⟨S1x10000x128, .f32⟩
  | .local _ .vmem, ⟨21, _⟩ => ⟨S1x10000x128, .f32⟩
  | .local _ .vmem, ⟨22, _⟩ => ⟨S1x2x128, .f32⟩
  | .local _ .vmem, ⟨23, _⟩ => ⟨S1x2x128, .f32⟩
  | .local _ .vmem, ⟨24, _⟩ => ⟨S1x2x2x128, .f32⟩
  | .local _ .vmem, ⟨25, _⟩ => ⟨S1x2x2x128, .f32⟩
  | .local _ .vmem, ⟨26, _⟩ => ⟨S2x128x128, .f32⟩
  | .local _ .vmem, ⟨27, _⟩ => ⟨S2x128x128, .f32⟩
  | .local _ .vmem, ⟨28, _⟩ => ⟨S2x128, .f32⟩
  | .local _ .vmem, ⟨29, _⟩ => ⟨S2x128, .f32⟩
  | .local _ .vmem, ⟨30, _⟩ => ⟨S1x2x2x128, .f32⟩
  | .local _ .vmem, ⟨31, _⟩ => ⟨S1x2x2x128, .f32⟩
  | .local _ .vmem, ⟨32, _⟩ => ⟨S8x256, .f32⟩
  | .local _ .vmem, ⟨33, _⟩ => ⟨S8x256, .f32⟩
  | .local _ .vmem, ⟨34, _⟩ => ⟨S16x512, .f32⟩
  | .local _ .vmem, ⟨35, _⟩ => ⟨S16x256x256, .f32⟩
  | .local _ .vmem, ⟨36, _⟩ => ⟨S1x16, .f32⟩
  | .local _ .vmem, ⟨37, _⟩ => ⟨S8x16, .f32⟩
  | .local _ .vmem, ⟨38, _⟩ => ⟨S4x8, .f32⟩
  | .local _ .vmem, ⟨39, _⟩ => ⟨S2x4, .f32⟩
  | .local _ .vmem, ⟨40, _⟩ => ⟨S1x2, .f32⟩
  | .local _ .vmem, ⟨41, _⟩ => ⟨S8x1, .f32⟩
  | .local _ .smem, ⟨0, _⟩ => ⟨S2, .f32⟩
  | .local _ .smem, ⟨1, _⟩ => ⟨S2, .f32⟩
  | .local _ .smem, ⟨2, _⟩ => ⟨S2, .f32⟩
  | .local _ .smem, ⟨3, _⟩ => ⟨S2, .f32⟩
  | _, _ => ⟨S8x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg9_0 : Ref sig .tc := ⟨.vmem, 16, rfl⟩
abbrev cc1_stg9_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg10_0 : Ref sig .tc := ⟨.vmem, 30, rfl⟩
abbrev cc2_stg10_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc1_stg7_0 : Ref sig .tc := ⟨.smem, 0, rfl⟩
abbrev cc1_stg8_0 : Ref sig .tc := ⟨.smem, 1, rfl⟩
abbrev cc2_stg8_0 : Ref sig .tc := ⟨.smem, 2, rfl⟩
abbrev cc2_stg9_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem10_1 : DmaSem sig := 35
abbrev cc3_sem0_0 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem9_0 : DmaSem sig := 45

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .smem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .smem S2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x2x2x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![8, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2x2x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S2x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S2x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S2x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .smem S2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .smem S2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x2x2x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev grid3 : Pipeline.Grid := .none

abbrev stage3_0 : Fin 1 → Memref sig .tc .vmem S8x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S16x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S16x256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S8x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S4x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S2x4 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S8x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 100000 : ℝ) : EReal)
  | _ => none
-- ==== ReferenceIdeal.lean ====
abbrev S8x100000x128 : Shape := ⟨3, ![8, 100000, 128]⟩
abbrev S2x128x128 : Shape := ⟨3, ![2, 128, 128]⟩
abbrev S2x1x256 : Shape := ⟨3, ![2, 1, 256]⟩
abbrev S2x1x128x128 : Shape := ⟨4, ![2, 1, 128, 128]⟩
abbrev S2x1x1 : Shape := ⟨3, ![2, 1, 1]⟩
abbrev S2x1 : Shape := ⟨2, ![2, 1]⟩
abbrev S16x512 : Shape := ⟨2, ![16, 512]⟩
abbrev S16x256x256 : Shape := ⟨3, ![16, 256, 256]⟩
abbrev S16 : Shape := ⟨1, ![16]⟩
abbrev S8x16 : Shape := ⟨2, ![8, 16]⟩
abbrev S4x8 : Shape := ⟨2, ![4, 8]⟩
abbrev S2x4 : Shape := ⟨2, ![2, 4]⟩
abbrev S1x2 : Shape := ⟨2, ![1, 2]⟩
abbrev S1x1x128 : Shape := ⟨3, ![1, 1, 128]⟩
abbrev S1x128 : Shape := ⟨2, ![1, 128]⟩
abbrev S_ : Shape := ⟨0, ![]⟩
abbrev S8x128 : Shape := ⟨2, ![8, 128]⟩
abbrev S1x128x128 : Shape := ⟨3, ![1, 128, 128]⟩
abbrev S128x128 : Shape := ⟨2, ![128, 128]⟩
abbrev S128x1 : Shape := ⟨2, ![128, 1]⟩
abbrev S8x100000x1 : Shape := ⟨3, ![8, 100000, 1]⟩
abbrev S1x8 : Shape := ⟨2, ![1, 8]⟩
abbrev S8x1 : Shape := ⟨2, ![8, 1]⟩
abbrev S8x1x1 : Shape := ⟨3, ![8, 1, 1]⟩
abbrev S1x1x128x128 : Shape := ⟨4, ![1, 1, 128, 128]⟩
abbrev S1x128x8 : Shape := ⟨3, ![1, 128, 8]⟩
abbrev S1x1 : Shape := ⟨2, ![1, 1]⟩
abbrev S1 : Shape := ⟨1, ![1]⟩
abbrev S1x1x1 : Shape := ⟨3, ![1, 1, 1]⟩
abbrev S8x100000 : Shape := ⟨2, ![8, 100000]⟩
abbrev S8x256 : Shape := ⟨2, ![8, 256]⟩
abbrev S16x256 : Shape := ⟨2, ![16, 256]⟩
abbrev S16x8 : Shape := ⟨2, ![16, 8]⟩
abbrev S16x256x8 : Shape := ⟨3, ![16, 256, 8]⟩
abbrev S1x16 : Shape := ⟨2, ![1, 16]⟩
abbrev S8 : Shape := ⟨1, ![8]⟩
abbrev S8x8 : Shape := ⟨2, ![8, 8]⟩
abbrev S2x8 : Shape := ⟨2, ![2, 8]⟩

abbrev nBuf : Space → Nat
  | .hbm => 461
  | .vmem => 0
  | .smem => 0
  | _ => 0

abbrev hbmTy0_0 (i : Nat) : BufTy := match i % 128 with
  | 0 => ⟨S8x100000x128, .f32⟩
  | 1 => ⟨S8x100000x128, .f32⟩
  | 2 => ⟨S2x128x128, .f32⟩
  | 3 => ⟨S2x1x256, .f32⟩
  | 4 => ⟨S2x1x128x128, .f32⟩
  | 5 => ⟨S2x1x1, .f32⟩
  | 6 => ⟨S2x1, .f32⟩
  | 7 => ⟨S16x512, .f32⟩
  | 8 => ⟨S16x256x256, .f32⟩
  | 9 => ⟨S16, .f32⟩
  | 10 => ⟨S8x16, .f32⟩
  | 11 => ⟨S4x8, .f32⟩
  | 12 => ⟨S2x4, .f32⟩
  | 13 => ⟨S1x2, .f32⟩
  | 14 => ⟨S1x1x128, .f32⟩
  | 15 => ⟨S1x128, .f32⟩
  | 16 => ⟨S1x1x128, .f32⟩
  | 17 => ⟨S1x128, .f32⟩
  | 18 => ⟨S_, .f32⟩
  | 19 => ⟨S8x128, .f32⟩
  | 20 => ⟨S_, .f32⟩
  | 21 => ⟨S8x128, .f32⟩
  | 22 => ⟨S8x128, .f32⟩
  | 23 => ⟨S1x128x128, .f32⟩
  | 24 => ⟨S128x128, .f32⟩
  | 25 => ⟨S8x128, .f32⟩
  | 26 => ⟨S8x128, .f32⟩
  | 27 => ⟨S128x1, .f32⟩
  | 28 => ⟨S8x100000x1, .f32⟩
  | 29 => ⟨S1x8, .f32⟩
  | 30 => ⟨S8x1, .f32⟩
  | 31 => ⟨S8x1x1, .f32⟩
  | 32 => ⟨S8x100000x1, .f32⟩
  | 33 => ⟨S8x100000x1, .f32⟩
  | 34 => ⟨S1x1x128x128, .f32⟩
  | 35 => ⟨S1x128x128, .f32⟩
  | 36 => ⟨S1x128x8, .f32⟩
  | 37 => ⟨S8x100000x1, .f32⟩
  | 38 => ⟨S8x100000x1, .f32⟩
  | 39 => ⟨S1x1, .f32⟩
  | 40 => ⟨S1, .f32⟩
  | 41 => ⟨S1x1, .f32⟩
  | 42 => ⟨S1x1x1, .f32⟩
  | 43 => ⟨S8x100000x1, .f32⟩
  | 44 => ⟨S8x100000x1, .f32⟩
  | 45 => ⟨S8x100000x1, .f32⟩
  | 46 => ⟨S_, .f32⟩
  | 47 => ⟨S8x100000, .f32⟩
  | 48 => ⟨S8x100000x1, .f32⟩
  | 49 => ⟨S_, .f32⟩
  | 50 => ⟨S8x100000x1, .f32⟩
  | 51 => ⟨S8x100000x1, .f32⟩
  | 52 => ⟨S8x100000x1, .f32⟩
  | 53 => ⟨S8x100000x1, .f32⟩
  | 54 => ⟨S8x100000x1, .f32⟩
  | 55 => ⟨S_, .f32⟩
  | 56 => ⟨S8x100000x1, .f32⟩
  | 57 => ⟨S8x100000x1, .f32⟩
  | 58 => ⟨S_, .f32⟩
  | 59 => ⟨S8x100000x1, .f32⟩
  | 60 => ⟨S8x100000x1, .f32⟩
  | 61 => ⟨S1x1x1, .f32⟩
  | 62 => ⟨S1x1, .f32⟩
  | 63 => ⟨S8x100000x1, .f32⟩
  | 64 => ⟨S8x100000, .f32⟩
  | 65 => ⟨S8x128, .f32⟩
  | 66 => ⟨S8x100000x128, .f32⟩
  | 67 => ⟨S8x100000x128, .f32⟩
  | 68 => ⟨S_, .f32⟩
  | 69 => ⟨S8x128, .f32⟩
  | 70 => ⟨S_, .f32⟩
  | 71 => ⟨S8x128, .f32⟩
  | 72 => ⟨S8x128, .f32⟩
  | 73 => ⟨S1x128x128, .f32⟩
  | 74 => ⟨S128x128, .f32⟩
  | 75 => ⟨S8x128, .f32⟩
  | 76 => ⟨S8x128, .f32⟩
  | 77 => ⟨S128x1, .f32⟩
  | 78 => ⟨S8x100000x1, .f32⟩
  | 79 => ⟨S1x8, .f32⟩
  | 80 => ⟨S8x1, .f32⟩
  | 81 => ⟨S8x1x1, .f32⟩
  | 82 => ⟨S8x100000x1, .f32⟩
  | 83 => ⟨S8x100000x1, .f32⟩
  | 84 => ⟨S1x1x128x128, .f32⟩
  | 85 => ⟨S1x128x128, .f32⟩
  | 86 => ⟨S1x128x8, .f32⟩
  | 87 => ⟨S8x100000x1, .f32⟩
  | 88 => ⟨S8x100000x1, .f32⟩
  | 89 => ⟨S1x1, .f32⟩
  | 90 => ⟨S1, .f32⟩
  | 91 => ⟨S1x1, .f32⟩
  | 92 => ⟨S1x1x1, .f32⟩
  | 93 => ⟨S8x100000x1, .f32⟩
  | 94 => ⟨S8x100000x1, .f32⟩
  | 95 => ⟨S8x100000x1, .f32⟩
  | 96 => ⟨S_, .f32⟩
  | 97 => ⟨S8x100000, .f32⟩
  | 98 => ⟨S8x100000x1, .f32⟩
  | 99 => ⟨S_, .f32⟩
  | 100 => ⟨S8x100000x1, .f32⟩
  | 101 => ⟨S8x100000x1, .f32⟩
  | 102 => ⟨S8x100000x1, .f32⟩
  | 103 => ⟨S8x100000x1, .f32⟩
  | 104 => ⟨S8x100000x1, .f32⟩
  | 105 => ⟨S_, .f32⟩
  | 106 => ⟨S8x100000x1, .f32⟩
  | 107 => ⟨S8x100000x1, .f32⟩
  | 108 => ⟨S_, .f32⟩
  | 109 => ⟨S8x100000x1, .f32⟩
  | 110 => ⟨S8x100000x1, .f32⟩
  | 111 => ⟨S1x1x1, .f32⟩
  | 112 => ⟨S1x1, .f32⟩
  | 113 => ⟨S8x100000x1, .f32⟩
  | 114 => ⟨S8x100000, .f32⟩
  | 115 => ⟨S8x128, .f32⟩
  | 116 => ⟨S8x100000x128, .f32⟩
  | 117 => ⟨S8x100000x128, .f32⟩
  | 118 => ⟨S1x1x128, .f32⟩
  | 119 => ⟨S1x128, .f32⟩
  | 120 => ⟨S1x1x128, .f32⟩
  | 121 => ⟨S1x128, .f32⟩
  | 122 => ⟨S_, .f32⟩
  | 123 => ⟨S8x128, .f32⟩
  | 124 => ⟨S_, .f32⟩
  | 125 => ⟨S8x128, .f32⟩
  | 126 => ⟨S8x128, .f32⟩
  | 127 => ⟨S1x128x128, .f32⟩
  | _ => ⟨S8x100000x128, .f32⟩

abbrev hbmTy0_1 (i : Nat) : BufTy := match i % 128 with
  | 0 => ⟨S128x128, .f32⟩
  | 1 => ⟨S8x128, .f32⟩
  | 2 => ⟨S8x128, .f32⟩
  | 3 => ⟨S128x1, .f32⟩
  | 4 => ⟨S8x100000x1, .f32⟩
  | 5 => ⟨S1x8, .f32⟩
  | 6 => ⟨S8x1, .f32⟩
  | 7 => ⟨S8x1x1, .f32⟩
  | 8 => ⟨S8x100000x1, .f32⟩
  | 9 => ⟨S8x100000x1, .f32⟩
  | 10 => ⟨S1x1x128x128, .f32⟩
  | 11 => ⟨S1x128x128, .f32⟩
  | 12 => ⟨S1x128x8, .f32⟩
  | 13 => ⟨S8x100000x1, .f32⟩
  | 14 => ⟨S8x100000x1, .f32⟩
  | 15 => ⟨S1x1, .f32⟩
  | 16 => ⟨S1, .f32⟩
  | 17 => ⟨S1x1, .f32⟩
  | 18 => ⟨S1x1x1, .f32⟩
  | 19 => ⟨S8x100000x1, .f32⟩
  | 20 => ⟨S8x100000x1, .f32⟩
  | 21 => ⟨S8x100000x1, .f32⟩
  | 22 => ⟨S_, .f32⟩
  | 23 => ⟨S8x100000, .f32⟩
  | 24 => ⟨S8x100000x1, .f32⟩
  | 25 => ⟨S_, .f32⟩
  | 26 => ⟨S8x100000x1, .f32⟩
  | 27 => ⟨S8x100000x1, .f32⟩
  | 28 => ⟨S8x100000x1, .f32⟩
  | 29 => ⟨S8x100000x1, .f32⟩
  | 30 => ⟨S8x100000x1, .f32⟩
  | 31 => ⟨S_, .f32⟩
  | 32 => ⟨S8x100000x1, .f32⟩
  | 33 => ⟨S8x100000x1, .f32⟩
  | 34 => ⟨S_, .f32⟩
  | 35 => ⟨S8x100000x1, .f32⟩
  | 36 => ⟨S8x100000x1, .f32⟩
  | 37 => ⟨S1x1x1, .f32⟩
  | 38 => ⟨S1x1, .f32⟩
  | 39 => ⟨S8x100000x1, .f32⟩
  | 40 => ⟨S8x100000, .f32⟩
  | 41 => ⟨S8x128, .f32⟩
  | 42 => ⟨S8x100000x128, .f32⟩
  | 43 => ⟨S8x100000x128, .f32⟩
  | 44 => ⟨S_, .f32⟩
  | 45 => ⟨S8x128, .f32⟩
  | 46 => ⟨S_, .f32⟩
  | 47 => ⟨S8x128, .f32⟩
  | 48 => ⟨S8x128, .f32⟩
  | 49 => ⟨S1x128x128, .f32⟩
  | 50 => ⟨S128x128, .f32⟩
  | 51 => ⟨S8x128, .f32⟩
  | 52 => ⟨S8x128, .f32⟩
  | 53 => ⟨S128x1, .f32⟩
  | 54 => ⟨S8x100000x1, .f32⟩
  | 55 => ⟨S1x8, .f32⟩
  | 56 => ⟨S8x1, .f32⟩
  | 57 => ⟨S8x1x1, .f32⟩
  | 58 => ⟨S8x100000x1, .f32⟩
  | 59 => ⟨S8x100000x1, .f32⟩
  | 60 => ⟨S1x1x128x128, .f32⟩
  | 61 => ⟨S1x128x128, .f32⟩
  | 62 => ⟨S1x128x8, .f32⟩
  | 63 => ⟨S8x100000x1, .f32⟩
  | 64 => ⟨S8x100000x1, .f32⟩
  | 65 => ⟨S1x1, .f32⟩
  | 66 => ⟨S1, .f32⟩
  | 67 => ⟨S1x1, .f32⟩
  | 68 => ⟨S1x1x1, .f32⟩
  | 69 => ⟨S8x100000x1, .f32⟩
  | 70 => ⟨S8x100000x1, .f32⟩
  | 71 => ⟨S8x100000x1, .f32⟩
  | 72 => ⟨S_, .f32⟩
  | 73 => ⟨S8x100000, .f32⟩
  | 74 => ⟨S8x100000x1, .f32⟩
  | 75 => ⟨S_, .f32⟩
  | 76 => ⟨S8x100000x1, .f32⟩
  | 77 => ⟨S8x100000x1, .f32⟩
  | 78 => ⟨S8x100000x1, .f32⟩
  | 79 => ⟨S8x100000x1, .f32⟩
  | 80 => ⟨S8x100000x1, .f32⟩
  | 81 => ⟨S_, .f32⟩
  | 82 => ⟨S8x100000x1, .f32⟩
  | 83 => ⟨S8x100000x1, .f32⟩
  | 84 => ⟨S_, .f32⟩
  | 85 => ⟨S8x100000x1, .f32⟩
  | 86 => ⟨S8x100000x1, .f32⟩
  | 87 => ⟨S1x1x1, .f32⟩
  | 88 => ⟨S1x1, .f32⟩
  | 89 => ⟨S8x100000x1, .f32⟩
  | 90 => ⟨S8x100000, .f32⟩
  | 91 => ⟨S8x128, .f32⟩
  | 92 => ⟨S8x100000x128, .f32⟩
  | 93 => ⟨S8x100000x128, .f32⟩
  | 94 => ⟨S8x256, .f32⟩
  | 95 => ⟨S1x1x128, .f32⟩
  | 96 => ⟨S1x128, .f32⟩
  | 97 => ⟨S1x1x128, .f32⟩
  | 98 => ⟨S1x128, .f32⟩
  | 99 => ⟨S_, .f32⟩
  | 100 => ⟨S8x128, .f32⟩
  | 101 => ⟨S_, .f32⟩
  | 102 => ⟨S8x128, .f32⟩
  | 103 => ⟨S8x128, .f32⟩
  | 104 => ⟨S1x128x128, .f32⟩
  | 105 => ⟨S128x128, .f32⟩
  | 106 => ⟨S8x128, .f32⟩
  | 107 => ⟨S8x128, .f32⟩
  | 108 => ⟨S128x1, .f32⟩
  | 109 => ⟨S8x100000x1, .f32⟩
  | 110 => ⟨S1x8, .f32⟩
  | 111 => ⟨S8x1, .f32⟩
  | 112 => ⟨S8x1x1, .f32⟩
  | 113 => ⟨S8x100000x1, .f32⟩
  | 114 => ⟨S8x100000x1, .f32⟩
  | 115 => ⟨S1x1x128x128, .f32⟩
  | 116 => ⟨S1x128x128, .f32⟩
  | 117 => ⟨S1x128x8, .f32⟩
  | 118 => ⟨S8x100000x1, .f32⟩
  | 119 => ⟨S8x100000x1, .f32⟩
  | 120 => ⟨S1x1, .f32⟩
  | 121 => ⟨S1, .f32⟩
  | 122 => ⟨S1x1, .f32⟩
  | 123 => ⟨S1x1x1, .f32⟩
  | 124 => ⟨S8x100000x1, .f32⟩
  | 125 => ⟨S8x100000x1, .f32⟩
  | 126 => ⟨S8x100000x1, .f32⟩
  | 127 => ⟨S_, .f32⟩
  | _ => ⟨S8x100000x128, .f32⟩

abbrev hbmTy0_2 (i : Nat) : BufTy := match i % 128 with
  | 0 => ⟨S8x100000, .f32⟩
  | 1 => ⟨S8x100000x1, .f32⟩
  | 2 => ⟨S_, .f32⟩
  | 3 => ⟨S8x100000x1, .f32⟩
  | 4 => ⟨S8x100000x1, .f32⟩
  | 5 => ⟨S8x100000x1, .f32⟩
  | 6 => ⟨S8x100000x1, .f32⟩
  | 7 => ⟨S8x100000x1, .f32⟩
  | 8 => ⟨S_, .f32⟩
  | 9 => ⟨S8x100000x1, .f32⟩
  | 10 => ⟨S8x100000x1, .f32⟩
  | 11 => ⟨S_, .f32⟩
  | 12 => ⟨S8x100000x1, .f32⟩
  | 13 => ⟨S8x100000x1, .f32⟩
  | 14 => ⟨S1x1x1, .f32⟩
  | 15 => ⟨S1x1, .f32⟩
  | 16 => ⟨S8x100000x1, .f32⟩
  | 17 => ⟨S8x100000, .f32⟩
  | 18 => ⟨S8x128, .f32⟩
  | 19 => ⟨S8x100000x128, .f32⟩
  | 20 => ⟨S8x100000x128, .f32⟩
  | 21 => ⟨S_, .f32⟩
  | 22 => ⟨S8x128, .f32⟩
  | 23 => ⟨S_, .f32⟩
  | 24 => ⟨S8x128, .f32⟩
  | 25 => ⟨S8x128, .f32⟩
  | 26 => ⟨S1x128x128, .f32⟩
  | 27 => ⟨S128x128, .f32⟩
  | 28 => ⟨S8x128, .f32⟩
  | 29 => ⟨S8x128, .f32⟩
  | 30 => ⟨S128x1, .f32⟩
  | 31 => ⟨S8x100000x1, .f32⟩
  | 32 => ⟨S1x8, .f32⟩
  | 33 => ⟨S8x1, .f32⟩
  | 34 => ⟨S8x1x1, .f32⟩
  | 35 => ⟨S8x100000x1, .f32⟩
  | 36 => ⟨S8x100000x1, .f32⟩
  | 37 => ⟨S1x1x128x128, .f32⟩
  | 38 => ⟨S1x128x128, .f32⟩
  | 39 => ⟨S1x128x8, .f32⟩
  | 40 => ⟨S8x100000x1, .f32⟩
  | 41 => ⟨S8x100000x1, .f32⟩
  | 42 => ⟨S1x1, .f32⟩
  | 43 => ⟨S1, .f32⟩
  | 44 => ⟨S1x1, .f32⟩
  | 45 => ⟨S1x1x1, .f32⟩
  | 46 => ⟨S8x100000x1, .f32⟩
  | 47 => ⟨S8x100000x1, .f32⟩
  | 48 => ⟨S8x100000x1, .f32⟩
  | 49 => ⟨S_, .f32⟩
  | 50 => ⟨S8x100000, .f32⟩
  | 51 => ⟨S8x100000x1, .f32⟩
  | 52 => ⟨S_, .f32⟩
  | 53 => ⟨S8x100000x1, .f32⟩
  | 54 => ⟨S8x100000x1, .f32⟩
  | 55 => ⟨S8x100000x1, .f32⟩
  | 56 => ⟨S8x100000x1, .f32⟩
  | 57 => ⟨S8x100000x1, .f32⟩
  | 58 => ⟨S_, .f32⟩
  | 59 => ⟨S8x100000x1, .f32⟩
  | 60 => ⟨S8x100000x1, .f32⟩
  | 61 => ⟨S_, .f32⟩
  | 62 => ⟨S8x100000x1, .f32⟩
  | 63 => ⟨S8x100000x1, .f32⟩
  | 64 => ⟨S1x1x1, .f32⟩
  | 65 => ⟨S1x1, .f32⟩
  | 66 => ⟨S8x100000x1, .f32⟩
  | 67 => ⟨S8x100000, .f32⟩
  | 68 => ⟨S8x128, .f32⟩
  | 69 => ⟨S8x100000x128, .f32⟩
  | 70 => ⟨S8x100000x128, .f32⟩
  | 71 => ⟨S1x1x128, .f32⟩
  | 72 => ⟨S1x128, .f32⟩
  | 73 => ⟨S1x1x128, .f32⟩
  | 74 => ⟨S1x128, .f32⟩
  | 75 => ⟨S_, .f32⟩
  | 76 => ⟨S8x128, .f32⟩
  | 77 => ⟨S_, .f32⟩
  | 78 => ⟨S8x128, .f32⟩
  | 79 => ⟨S8x128, .f32⟩
  | 80 => ⟨S1x128x128, .f32⟩
  | 81 => ⟨S128x128, .f32⟩
  | 82 => ⟨S8x128, .f32⟩
  | 83 => ⟨S8x128, .f32⟩
  | 84 => ⟨S128x1, .f32⟩
  | 85 => ⟨S8x100000x1, .f32⟩
  | 86 => ⟨S1x8, .f32⟩
  | 87 => ⟨S8x1, .f32⟩
  | 88 => ⟨S8x1x1, .f32⟩
  | 89 => ⟨S8x100000x1, .f32⟩
  | 90 => ⟨S8x100000x1, .f32⟩
  | 91 => ⟨S1x1x128x128, .f32⟩
  | 92 => ⟨S1x128x128, .f32⟩
  | 93 => ⟨S1x128x8, .f32⟩
  | 94 => ⟨S8x100000x1, .f32⟩
  | 95 => ⟨S8x100000x1, .f32⟩
  | 96 => ⟨S1x1, .f32⟩
  | 97 => ⟨S1, .f32⟩
  | 98 => ⟨S1x1, .f32⟩
  | 99 => ⟨S1x1x1, .f32⟩
  | 100 => ⟨S8x100000x1, .f32⟩
  | 101 => ⟨S8x100000x1, .f32⟩
  | 102 => ⟨S8x100000x1, .f32⟩
  | 103 => ⟨S_, .f32⟩
  | 104 => ⟨S8x100000, .f32⟩
  | 105 => ⟨S8x100000x1, .f32⟩
  | 106 => ⟨S_, .f32⟩
  | 107 => ⟨S8x100000x1, .f32⟩
  | 108 => ⟨S8x100000x1, .f32⟩
  | 109 => ⟨S8x100000x1, .f32⟩
  | 110 => ⟨S8x100000x1, .f32⟩
  | 111 => ⟨S8x100000x1, .f32⟩
  | 112 => ⟨S_, .f32⟩
  | 113 => ⟨S8x100000x1, .f32⟩
  | 114 => ⟨S8x100000x1, .f32⟩
  | 115 => ⟨S_, .f32⟩
  | 116 => ⟨S8x100000x1, .f32⟩
  | 117 => ⟨S8x100000x1, .f32⟩
  | 118 => ⟨S1x1x1, .f32⟩
  | 119 => ⟨S1x1, .f32⟩
  | 120 => ⟨S8x100000x1, .f32⟩
  | 121 => ⟨S8x100000, .f32⟩
  | 122 => ⟨S8x128, .f32⟩
  | 123 => ⟨S8x100000x128, .f32⟩
  | 124 => ⟨S8x100000x128, .f32⟩
  | 125 => ⟨S_, .f32⟩
  | 126 => ⟨S8x128, .f32⟩
  | 127 => ⟨S_, .f32⟩
  | _ => ⟨S8x100000x128, .f32⟩

abbrev hbmTy0_3 (i : Nat) : BufTy := match i % 128 with
  | 0 => ⟨S8x128, .f32⟩
  | 1 => ⟨S8x128, .f32⟩
  | 2 => ⟨S1x128x128, .f32⟩
  | 3 => ⟨S128x128, .f32⟩
  | 4 => ⟨S8x128, .f32⟩
  | 5 => ⟨S8x128, .f32⟩
  | 6 => ⟨S128x1, .f32⟩
  | 7 => ⟨S8x100000x1, .f32⟩
  | 8 => ⟨S1x8, .f32⟩
  | 9 => ⟨S8x1, .f32⟩
  | 10 => ⟨S8x1x1, .f32⟩
  | 11 => ⟨S8x100000x1, .f32⟩
  | 12 => ⟨S8x100000x1, .f32⟩
  | 13 => ⟨S1x1x128x128, .f32⟩
  | 14 => ⟨S1x128x128, .f32⟩
  | 15 => ⟨S1x128x8, .f32⟩
  | 16 => ⟨S8x100000x1, .f32⟩
  | 17 => ⟨S8x100000x1, .f32⟩
  | 18 => ⟨S1x1, .f32⟩
  | 19 => ⟨S1, .f32⟩
  | 20 => ⟨S1x1, .f32⟩
  | 21 => ⟨S1x1x1, .f32⟩
  | 22 => ⟨S8x100000x1, .f32⟩
  | 23 => ⟨S8x100000x1, .f32⟩
  | 24 => ⟨S8x100000x1, .f32⟩
  | 25 => ⟨S_, .f32⟩
  | 26 => ⟨S8x100000, .f32⟩
  | 27 => ⟨S8x100000x1, .f32⟩
  | 28 => ⟨S_, .f32⟩
  | 29 => ⟨S8x100000x1, .f32⟩
  | 30 => ⟨S8x100000x1, .f32⟩
  | 31 => ⟨S8x100000x1, .f32⟩
  | 32 => ⟨S8x100000x1, .f32⟩
  | 33 => ⟨S8x100000x1, .f32⟩
  | 34 => ⟨S_, .f32⟩
  | 35 => ⟨S8x100000x1, .f32⟩
  | 36 => ⟨S8x100000x1, .f32⟩
  | 37 => ⟨S_, .f32⟩
  | 38 => ⟨S8x100000x1, .f32⟩
  | 39 => ⟨S8x100000x1, .f32⟩
  | 40 => ⟨S1x1x1, .f32⟩
  | 41 => ⟨S1x1, .f32⟩
  | 42 => ⟨S8x100000x1, .f32⟩
  | 43 => ⟨S8x100000, .f32⟩
  | 44 => ⟨S8x128, .f32⟩
  | 45 => ⟨S8x100000x128, .f32⟩
  | 46 => ⟨S8x100000x128, .f32⟩
  | 47 => ⟨S8x256, .f32⟩
  | 48 => ⟨S16x256, .f32⟩
  | 49 => ⟨S16x256, .f32⟩
  | 50 => ⟨S16x8, .f32⟩
  | 51 => ⟨S16x8, .f32⟩
  | 52 => ⟨S16x8, .f32⟩
  | 53 => ⟨S16x256x8, .f32⟩
  | 54 => ⟨S8x16, .f32⟩
  | 55 => ⟨S8x16, .f32⟩
  | 56 => ⟨S8x16, .f32⟩
  | 57 => ⟨S1x16, .f32⟩
  | 58 => ⟨S8x16, .f32⟩
  | 59 => ⟨S8x16, .f32⟩
  | 60 => ⟨S8x16, .f32⟩
  | 61 => ⟨S_, .f32⟩
  | 62 => ⟨S8, .f32⟩
  | 63 => ⟨S_, .f32⟩
  | 64 => ⟨S8, .f32⟩
  | 65 => ⟨S8, .f32⟩
  | 66 => ⟨S8x1, .f32⟩
  | 67 => ⟨S8x16, .f32⟩
  | 68 => ⟨S8x16, .f32⟩
  | 69 => ⟨S_, .f32⟩
  | 70 => ⟨S8x16, .f32⟩
  | 71 => ⟨S8x16, .f32⟩
  | 72 => ⟨S8x8, .f32⟩
  | 73 => ⟨S4x8, .f32⟩
  | 74 => ⟨S2x8, .f32⟩
  | 75 => ⟨S1x8, .f32⟩
  | 76 => ⟨S8x1, .f32⟩
  | _ => ⟨S8x100000x128, .f32⟩

abbrev hbmTy (i : Nat) : BufTy := match i / 128 with
  | 0 => hbmTy0_0 i
  | 1 => hbmTy0_1 i
  | 2 => hbmTy0_2 i
  | 3 => hbmTy0_3 i
  | _ => ⟨S8x100000x128, .f32⟩

abbrev bufTy : (tb : Table) → Fin (tcTables nBuf tb) → BufTy
  | .hbm, ⟨i, _⟩ => hbmTy i
  | _, _ => ⟨S8x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_9 : Ref sig .tc := ⟨.hbm, 105, rfl⟩
abbrev main_v81 : Ref sig .tc := ⟨.hbm, 106, rfl⟩
abbrev main_v82 : Ref sig .tc := ⟨.hbm, 107, rfl⟩
abbrev main_cst_10 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_11 : Ref sig .tc := ⟨.hbm, 122, rfl⟩
abbrev main_v96 : Ref sig .tc := ⟨.hbm, 123, rfl⟩
abbrev main_cst_12 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_13 : Ref sig .tc := ⟨.hbm, 150, rfl⟩
abbrev main_v122 : Ref sig .tc := ⟨.hbm, 151, rfl⟩
abbrev main_v123 : Ref sig .tc := ⟨.hbm, 152, rfl⟩
abbrev main_cst_14 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_15 : Ref sig .tc := ⟨.hbm, 159, rfl⟩
abbrev main_v129 : Ref sig .tc := ⟨.hbm, 160, rfl⟩
abbrev main_v130 : Ref sig .tc := ⟨.hbm, 161, rfl⟩
abbrev main_cst_16 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_17 : Ref sig .tc := ⟨.hbm, 172, rfl⟩
abbrev main_v140 : Ref sig .tc := ⟨.hbm, 173, rfl⟩
abbrev main_cst_18 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_cst_19 : Ref sig .tc := ⟨.hbm, 200, rfl⟩
abbrev main_v166 : Ref sig .tc := ⟨.hbm, 201, rfl⟩
abbrev main_v167 : Ref sig .tc := ⟨.hbm, 202, rfl⟩
abbrev main_cst_20 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_cst_21 : Ref sig .tc := ⟨.hbm, 209, rfl⟩
abbrev main_v173 : Ref sig .tc := ⟨.hbm, 210, rfl⟩
abbrev main_v174 : Ref sig .tc := ⟨.hbm, 211, rfl⟩
abbrev main_cst_22 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_23 : Ref sig .tc := ⟨.hbm, 227, rfl⟩
abbrev main_v189 : Ref sig .tc := ⟨.hbm, 228, rfl⟩
abbrev main_cst_24 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_cst_25 : Ref sig .tc := ⟨.hbm, 255, rfl⟩
abbrev main_v215 : Ref sig .tc := ⟨.hbm, 256, rfl⟩
abbrev main_v216 : Ref sig .tc := ⟨.hbm, 257, rfl⟩
abbrev main_cst_26 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_cst_27 : Ref sig .tc := ⟨.hbm, 264, rfl⟩
abbrev main_v222 : Ref sig .tc := ⟨.hbm, 265, rfl⟩
abbrev main_v223 : Ref sig .tc := ⟨.hbm, 266, rfl⟩
abbrev main_cst_28 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_cst_29 : Ref sig .tc := ⟨.hbm, 277, rfl⟩
abbrev main_v233 : Ref sig .tc := ⟨.hbm, 278, rfl⟩
abbrev main_cst_30 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_cst_31 : Ref sig .tc := ⟨.hbm, 305, rfl⟩
abbrev main_v259 : Ref sig .tc := ⟨.hbm, 306, rfl⟩
abbrev main_v260 : Ref sig .tc := ⟨.hbm, 307, rfl⟩
abbrev main_cst_32 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_cst_33 : Ref sig .tc := ⟨.hbm, 314, rfl⟩
abbrev main_v266 : Ref sig .tc := ⟨.hbm, 315, rfl⟩
abbrev main_v267 : Ref sig .tc := ⟨.hbm, 316, rfl⟩
abbrev main_cst_34 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_cst_35 : Ref sig .tc := ⟨.hbm, 331, rfl⟩
abbrev main_v281 : Ref sig .tc := ⟨.hbm, 332, rfl⟩
abbrev main_cst_36 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_cst_37 : Ref sig .tc := ⟨.hbm, 359, rfl⟩
abbrev main_v307 : Ref sig .tc := ⟨.hbm, 360, rfl⟩
abbrev main_v308 : Ref sig .tc := ⟨.hbm, 361, rfl⟩
abbrev main_cst_38 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_cst_39 : Ref sig .tc := ⟨.hbm, 368, rfl⟩
abbrev main_v314 : Ref sig .tc := ⟨.hbm, 369, rfl⟩
abbrev main_v315 : Ref sig .tc := ⟨.hbm, 370, rfl⟩
abbrev main_cst_40 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_cst_41 : Ref sig .tc := ⟨.hbm, 381, rfl⟩
abbrev main_v325 : Ref sig .tc := ⟨.hbm, 382, rfl⟩
abbrev main_cst_42 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_v342 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_cst_43 : Ref sig .tc := ⟨.hbm, 409, rfl⟩
abbrev main_v351 : Ref sig .tc := ⟨.hbm, 410, rfl⟩
abbrev main_v352 : Ref sig .tc := ⟨.hbm, 411, rfl⟩
abbrev main_cst_44 : Ref sig .tc := ⟨.hbm, 412, rfl⟩
abbrev main_v353 : Ref sig .tc := ⟨.hbm, 413, rfl⟩
abbrev main_v354 : Ref sig .tc := ⟨.hbm, 414, rfl⟩
abbrev main_v355 : Ref sig .tc := ⟨.hbm, 415, rfl⟩
abbrev main_v356 : Ref sig .tc := ⟨.hbm, 416, rfl⟩
abbrev main_v357 : Ref sig .tc := ⟨.hbm, 417, rfl⟩
abbrev main_cst_45 : Ref sig .tc := ⟨.hbm, 418, rfl⟩
abbrev main_v358 : Ref sig .tc := ⟨.hbm, 419, rfl⟩
abbrev main_v359 : Ref sig .tc := ⟨.hbm, 420, rfl⟩
abbrev main_cst_46 : Ref sig .tc := ⟨.hbm, 421, rfl⟩
abbrev main_v360 : Ref sig .tc := ⟨.hbm, 422, rfl⟩
abbrev main_v361 : Ref sig .tc := ⟨.hbm, 423, rfl⟩
abbrev main_v362 : Ref sig .tc := ⟨.hbm, 424, rfl⟩
abbrev main_v363 : Ref sig .tc := ⟨.hbm, 425, rfl⟩
abbrev main_v364 : Ref sig .tc := ⟨.hbm, 426, rfl⟩
abbrev main_v365 : Ref sig .tc := ⟨.hbm, 427, rfl⟩
abbrev main_v366 : Ref sig .tc := ⟨.hbm, 428, rfl⟩
abbrev main_v367 : Ref sig .tc := ⟨.hbm, 429, rfl⟩
abbrev main_v368 : Ref sig .tc := ⟨.hbm, 430, rfl⟩
abbrev main_v369 : Ref sig .tc := ⟨.hbm, 431, rfl⟩
abbrev main_v370 : Ref sig .tc := ⟨.hbm, 432, rfl⟩
abbrev main_v371 : Ref sig .tc := ⟨.hbm, 433, rfl⟩
abbrev main_v372 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_cst_47 : Ref sig .tc := ⟨.hbm, 445, rfl⟩
abbrev main_v383 : Ref sig .tc := ⟨.hbm, 446, rfl⟩
abbrev main_cst_48 : Ref sig .tc := ⟨.hbm, 447, rfl⟩
abbrev main_v384 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_call0_cst : Ref sig .tc := ⟨.hbm, 453, rfl⟩
abbrev main_call0_v0 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_v393 : Ref sig .tc := ⟨.hbm, 459, rfl⟩
abbrev main_v394 : Ref sig .tc := ⟨.hbm, 460, rfl⟩

abbrev nD : Nat := 1
abbrev τ : Topo := Topo.v7x

variable {F : FTy → Type} [FloatOps F]
-- ==== Proof.Vocab.lean ====
/- The mathematics both programs compute, on plain functions over the extended reals: an attention head applied twice to
   a graph's nodes, then the tensor network and the projections that score the pair. Nothing here speaks of programs. -/
module

public import Idealize.ShloMosaic.PureOps.Ideal
public import Idealize.ShloMosaic.PureOps.Ideal.Laws

@[expose] public section

noncomputable section

namespace Cert.Att

open Idealize.ShloMosaic

/-- The floor of the L1 norms, as an extended real. -/
def eps : EReal := Ideal.ofBits .f32 0x2B8CBCCC#32

/-- The reciprocal of the number of nodes. -/
def invN : EReal := ((1 / 100000 : ℝ) : EReal)

/-- One of two things, by the side of the pair. -/
def side {α : Type} (a b : α) (s : Fin 2) : α := if s = 0 then a else b

/-- Two choices by one side agree where the two things chosen from do. -/
theorem side_congr {ι κ M : Type} {a b : ι → M} {a' b' : κ → M} {s s' : Fin 2} {i : ι} {j : κ} (h : s' = s)
    (ha : a i = a' j) (hb : b i = b' j) : side a b s i = side a' b' s' j := by
  subst h; unfold side; split <;> assumption

/-- A matrix row, a vector of features. -/
abbrev Feat := Fin 128 → EReal

/-- One attention head's parameters. -/
structure Head where
  W : Fin 128 → Feat
  va : Feat
  vb : Feat
  Wt : Fin 128 → Feat
  u : EReal
  b : EReal

/-- The context vector of a head: `tanh (m W)`. -/
def ctx (W : Fin 128 → Feat) (m : Feat) : Feat := fun e => Ideal.tanh (∑ d, m d * W d e)

/-- The bilinear form's matrix applied to the context vector. -/
def bil (Wt : Fin 128 → Feat) (h : Feat) : Feat := fun d => ∑ e, h e * Wt d e

/-- The part of a score that does not depend on the node. -/
def off (vb : Feat) (b : EReal) (h : Feat) : EReal := (∑ d, h d * vb d) + b

/-- A score divided by its own absolute value, through the sigmoid, times the head's weight. -/
def gate (u t : EReal) : EReal := Ideal.logistic (Ideal.div t (max (max t (-t)) eps)) * u

/-- A node's score under the context vector `h`. -/
def score (H : Head) (h x : Feat) : EReal :=
  ((∑ d, x d * H.va d) + ∑ d, x d * bil H.Wt h d) + off H.vb H.b h

/-- The attention weight of a node with features `x`, where the mean of the nodes' features is `m`. -/
def att (H : Head) (m x : Feat) : EReal := gate H.u (score H (ctx H.W m) x)

/-- The total of the nodes' features. -/
def total {N : ℕ} (x : Fin N → Feat) : Feat := fun d => ∑ n, x n d

/-- The features scaled by the reciprocal of the number of nodes: of a total, the mean. -/
def scaled (m : Feat) : Feat := fun d => m d * invN

/-- A node's features times its attention weight, where `m` is the mean. -/
def weigh (H : Head) (m x : Feat) : Feat := fun d => att H m x * x d

/-- The graph after one iteration of a head. -/
def step {N : ℕ} (H : Head) (x : Fin N → Feat) : Fin N → Feat := fun n => weigh H (scaled (total x)) (x n)

/-- A head's embedding of a graph: the total after two iterations. -/
def emb {N : ℕ} (H : Head) (x : Fin N → Feat) : Feat := total (step H (step H x))

/-- Two heads' embeddings side by side. -/
def pack (e : Fin 2 → Feat) (k : Fin 256) : EReal :=
  if h : k.val < 128 then e 0 ⟨k.val, h⟩ else e 1 ⟨k.val - 128, by omega⟩

/-- The tensor network's slices before normalization. -/
def slices (V : Fin 16 → Fin 512 → EReal) (W : Fin 16 → Fin 256 → Fin 256 → EReal) (b : Fin 16 → EReal)
    (g1 g2 : Fin 256 → EReal) (f : Fin 16) : EReal :=
  (((∑ k : Fin 256, g1 k * V f ⟨k.val, by omega⟩) + ∑ k : Fin 256, g2 k * V f ⟨256 + k.val, by omega⟩)
    + ∑ e, (∑ d, g1 d * W f d e) * g2 e) + b f

/-- The slices divided by their L1 norm, negative parts cut. -/
def normed (s : Fin 16 → EReal) (f : Fin 16) : EReal :=
  max (Ideal.div (s f) (max (∑ k, max (s k) (-(s k))) eps)) 0

/-- A projection. -/
def proj {n k : ℕ} (p : Fin n → Fin k → EReal) (y : Fin k → EReal) (i : Fin n) : EReal := ∑ j, y j * p i j

/-- The projections one after the other. -/
def projs (p0 : Fin 8 → Fin 16 → EReal) (p1 : Fin 4 → Fin 8 → EReal) (p2 : Fin 2 → Fin 4 → EReal) (p3 : Fin 1 → Fin 2 → EReal)
    (y : Fin 16 → EReal) : EReal :=
  proj p3 (proj p2 (proj p1 (proj p0 y))) 0

end Cert.Att

end
-- ==== Proof.RefAtt.lean ====
/- The reference's attention, once for both heads, both graphs and both iterations. -/
module

public import proofs.«01_k».proof.Proof.Gen.ReferenceIdeal.Read
public import Idealize.ShloMosaic.Lib.Pointwise
public import proofs.«01_k».proof.Proof.Vocab

@[expose] public section

noncomputable section

namespace Cert.RefAtt

open Cert.ReferenceIdeal Cert.ReferenceIdeal.Gen Cert.ReferenceIdeal.Read Cert.Att Idealize.ShloMosaic

/-- The nodes' mean features. -/
def meanR (x : FVec Ideal S8x100000x128 .f32) : FVec Ideal S8x128 .f32 :=
  Host.divf (Host.reduceAdd x (constant S_ .f32 0x00000000#32) reducesTo_S8x100000x128_S8x128_d1 h_S_)
    (broadcastInDim S8x128 ![] bcast_S_S8x128 (constant S_ .f32 0x47C35000#32))

/-- The context vectors of a head. -/
def ctxR (x : FVec Ideal S8x100000x128 .f32) (w : FVec Ideal S128x128 .f32) : FVec Ideal S8x128 .f32 :=
  Host.tanh (Host.dotGeneral dot_S8x128_S128x128_S8x128_1_0_0_1_n_n none (meanR x) w)

/-- The scores of a head before the normalization. -/
def scoreR (x : FVec Ideal S8x100000x128 .f32) (h : FVec Ideal S8x128 .f32) (va vb : FVec Ideal S1x128 .f32)
    (wt : FVec Ideal S1x128x128 .f32) (b : FVec Ideal S1 .f32) : FVec Ideal S8x100000x1 .f32 :=
  addf (addf (addf (Host.dotGeneral dot_S8x100000x128_S128x1_S8x100000x1_2_0_01_1_n_n none x
        (transpose S128x1 [1, 0] va transposes_S1x128_S128x1_1_0))
      (broadcastInDim S8x100000x1 ![0, 1, 2] bcast_S8x1x1_S8x100000x1_0_1_2 (broadcastInDim S8x1x1 ![0, 2] bcast_S8x1_S8x1x1_0_2
        (transpose S8x1 [1, 0] (Host.dotGeneral dot_S1x128_S8x128_S1x8_1_1_0_0_n_n none vb h) transposes_S1x8_S8x1_1_0))))
      (Host.dotGeneral dot_S8x100000x128_S1x128x8_S8x100000x1_2_1_1_0_0_2 none x
        (Host.dotGeneral dot_S1x128x128_S8x128_S1x128x8_2_1_01_0_n_n none wt h)))
    (broadcastInDim S8x100000x1 ![0, 1, 2] bcast_S1x1x1_S8x100000x1_0_1_2
      (broadcastInDim S1x1x1 ![1, 2] bcast_S1x1_S1x1x1_1_2 (broadcastInDim S1x1 ![1] bcast_S1_S1x1_1 b)))

/-- The scores of a head, each divided by its L1 norm, through the sigmoid, times the head's weight. -/
def gateR (t : FVec Ideal S8x100000x1 .f32) (u : FVec Ideal S1x1 .f32) : FVec Ideal S8x100000x1 .f32 :=
  Host.dotGeneral dot_S8x100000x1_S1x1_S8x100000x1_2_0_01_1_n_n none
    (Host.divf (broadcastInDim S8x100000x1 ![] bcast_S_S8x100000x1 (constant S_ .f32 0x3F800000#32))
      (addf (broadcastInDim S8x100000x1 ![] bcast_S_S8x100000x1 (constant S_ .f32 0x3F800000#32))
        (Host.exp (Host.negf (Host.divf t (maximumf
          (broadcastInDim S8x100000x1 ![0, 1] bcast_S8x100000_S8x100000x1_0_1
            (Host.reduceAdd (Host.absf t) (constant S_ .f32 0x00000000#32) reducesTo_S8x100000x1_S8x100000_d2 h_S_))
          (broadcastInDim S8x100000x1 ![] bcast_S_S8x100000x1 (constant S_ .f32 0x2B8CBCCC#32)))))))) u

/-- The attention weights of a head on the features `x`. -/
def attR (x : FVec Ideal S8x100000x128 .f32) (w : FVec Ideal S128x128 .f32) (va vb : FVec Ideal S1x128 .f32)
    (wt : FVec Ideal S1x128x128 .f32) (b : FVec Ideal S1 .f32) (u : FVec Ideal S1x1 .f32) : FVec Ideal S8x100000x1 .f32 :=
  gateR (scoreR x (ctxR x w) va vb wt b) u

/-- The features weighted by the attention. -/
def weightR (x : FVec Ideal S8x100000x128 .f32) (a : FVec Ideal S8x100000x1 .f32) : FVec Ideal S8x100000x128 .f32 :=
  mulf x (broadcastInDim S8x100000x128 ![0, 1, 2] bcast_S8x100000x1_S8x100000x128_0_1_2 a)

/-- The pooled features of a head. -/
def poolR (x : FVec Ideal S8x100000x128 .f32) (a : FVec Ideal S8x100000x1 .f32) : FVec Ideal S8x128 .f32 :=
  Host.dotGeneral dot_S8x100000_S8x100000x128_S8x128_1_1_n_2_0_0 none (shapeCast S8x100000 a shapeCasts_S8x100000x1_S8x100000) x

/-- A head's embedding: the second iteration's pooling. -/
def headR (x : FVec Ideal S8x100000x128 .f32) (w : FVec Ideal S128x128 .f32) (va vb : FVec Ideal S1x128 .f32)
    (wt : FVec Ideal S1x128x128 .f32) (b : FVec Ideal S1 .f32) (u : FVec Ideal S1x1 .f32) : FVec Ideal S8x128 .f32 :=
  let y := weightR x (attR x w va vb wt b u)
  poolR y (attR y w va vb wt b u)

variable (x : FVec Ideal S8x100000x128 .f32)

/-- The literal the reference divides by is the number of nodes. -/
theorem count_eq : Ideal.ofBits .f32 0x47C35000#32 = ((100000 : ℝ) : EReal) := by
  simp [Ideal.ofBits, Ideal.ieee, -EReal.coe_mul]; norm_num

/-- At an index: the scaled total of the nodes. -/
theorem meanR_at (b : Fin 8) (d : Fin 128) : meanR x (ix2 b d) = scaled (total fun n d => x (ix3 b n d)) d := by
  unfold meanR
  pointwise
  rw [count_eq, Ideal.div_coe (by norm_num)]
  rfl

/-- At an index: the context vector. -/
theorem ctxR_at (w : FVec Ideal S128x128 .f32) (b : Fin 8) (e : Fin 128) :
    ctxR x w (ix2 b e) = ctx (fun d e => w (ix2 d e)) (scaled (total fun n d => x (ix3 b n d))) e := by
  unfold ctxR
  pointwise [dot_S8x128_S128x128_S8x128_1_0_0_1_n_n, meanR_at]
  rfl

/-- The two orders in which the four parts of a score are added. -/
theorem regroup (a v w b : EReal) : ((a + v) + w) + b = (a + w) + (v + b) := by ac_rfl

/-- At a node: its score. -/
theorem scoreR_at (h : FVec Ideal S8x128 .f32) (va vb : FVec Ideal S1x128 .f32)
    (wt : FVec Ideal S1x128x128 .f32) (b : FVec Ideal S1 .f32) (W : Fin 128 → Feat) (u : EReal) (i : Fin 8) (n : Fin 100000) :
    scoreR x h va vb wt b (ix3 i n 0) =
      score ⟨W, fun d => va (ix2 0 d), fun d => vb (ix2 0 d), fun d e => wt (ix3 0 d e), u, b (ix1 0)⟩
        (fun d => h (ix2 i d)) (fun d => x (ix3 i n d)) := by
  unfold scoreR
  pointwise [dot_S8x100000x128_S128x1_S8x100000x1_2_0_01_1_n_n, dot_S1x128_S8x128_S1x8_1_1_0_0_n_n, dot_S8x100000x128_S1x128x8_S8x100000x1_2_1_1_0_0_2, dot_S1x128x128_S8x128_S1x128x8_2_1_01_0_n_n]
  simp only [score, bil, off, mul_comm]
  exact regroup _ _ _ _

/-- At a node: its attention weight. -/
theorem gateR_at (t : FVec Ideal S8x100000x1 .f32) (u : FVec Ideal S1x1 .f32) (i : Fin 8) (n : Fin 100000) :
    gateR t u (ix3 i n 0) = gate (u (ix2 0 0)) (t (ix3 i n 0)) := by
  unfold gateR
  pointwise [dot_S8x100000x1_S1x1_S8x100000x1_2_0_01_1_n_n]
  simp only [Fin.isValue, Finset.univ_unique, Fin.default_eq_zero, Finset.sum_singleton]
  rfl

/-- At an index: the node by its weight. -/
theorem weightR_at (a : FVec Ideal S8x100000x1 .f32) (i : Fin 8) (n : Fin 100000) (d : Fin 128) :
    weightR x a (ix3 i n d) = x (ix3 i n d) * a (ix3 i n 0) := by
  unfold weightR
  pointwise

/-- At an index: the weighted sum of the nodes. -/
theorem poolR_at (a : FVec Ideal S8x100000x1 .f32) (i : Fin 8) (d : Fin 128) :
    poolR x a (ix2 i d) = ∑ n, a (ix3 i n 0) * x (ix3 i n d) := by
  unfold poolR
  pointwise [dot_S8x100000_S8x100000x128_S8x128_1_1_n_2_0_0]

/-- The parameters of a head, as the reference slices them. -/
def headP (w : FVec Ideal S128x128 .f32) (va vb : FVec Ideal S1x128 .f32)
    (wt : FVec Ideal S1x128x128 .f32) (b : FVec Ideal S1 .f32) (u : FVec Ideal S1x1 .f32) : Head where
  W := fun d e => w (ix2 d e)
  va := fun d => va (ix2 0 d)
  vb := fun d => vb (ix2 0 d)
  Wt := fun d e => wt (ix3 0 d e)
  u := u (ix2 0 0)
  b := b (ix1 0)

variable (w : FVec Ideal S128x128 .f32) (va vb : FVec Ideal S1x128 .f32)
    (wt : FVec Ideal S1x128x128 .f32) (b : FVec Ideal S1 .f32) (u : FVec Ideal S1x1 .f32)

/-- The reference's attention weight of a node is the mathematical one. -/
theorem attR_at (i : Fin 8) (n : Fin 100000) :
    attR x w va vb wt b u (ix3 i n 0) =
      att (headP w va vb wt b u) (scaled (total fun n d => x (ix3 i n d))) (fun d => x (ix3 i n d)) := by
  unfold attR
  rw [gateR_at, scoreR_at (W := fun d e => w (ix2 d e)) (u := u (ix2 0 0))]
  simp only [ctxR_at]
  rfl

/-- The features after one iteration of the reference are one step of the mathematics. -/
theorem weightR_att (i : Fin 8) (n : Fin 100000) (d : Fin 128) :
    weightR x (attR x w va vb wt b u) (ix3 i n d) =
      step (headP w va vb wt b u) (fun n d => x (ix3 i n d)) n d := by
  rw [weightR_at, attR_at, mul_comm]
  rfl

/-- A head's embedding in the reference is the mathematical one. -/
theorem headR_at (i : Fin 8) (d : Fin 128) :
    headR x w va vb wt b u (ix2 i d) = emb (headP w va vb wt b u) (fun n d => x (ix3 i n d)) d := by
  unfold headR
  simp only [poolR_at, attR_at, weightR_att]
  rfl

/-! ## The two heads' parameters, read from the arguments -/

variable (x2 : FVec Ideal S2x128x128 .f32) (x3 : FVec Ideal S2x1x256 .f32)
  (x4 : FVec Ideal S2x1x128x128 .f32) (x5 : FVec Ideal S2x1x1 .f32) (x6 : FVec Ideal S2x1 .f32)

/-- Head `i`'s parameters in the arguments. -/
def headA (i : Fin 2) : Head where
  W := fun d e => x2 (ix3 i d e)
  va := fun d => x3 (ix3 i 0 ⟨d.val, by omega⟩)
  vb := fun d => x3 (ix3 i 0 ⟨128 + d.val, by omega⟩)
  Wt := fun d e => x4 (ix4 i 0 d e)
  u := x5 (ix3 i 0 0)
  b := x6 (ix2 i 0)

/-- The slices the reference takes for head 0 are head 0's parameters. -/
theorem headP_zero : headP (val_main_v8 (F := Ideal) x2) (val_main_v1 (F := Ideal) x3) (val_main_v3 (F := Ideal) x3)
    (val_main_v19 (F := Ideal) x4) (val_main_v24 (F := Ideal) x6) (val_main_v42 (F := Ideal) x5) = headA x2 x3 x4 x5 x6 0 := by
  simp only [headP, headA, val_main_v8, val_main_v7, val_main_v1, val_main_v0, val_main_v3, val_main_v2, val_main_v19, val_main_v18,
    val_main_v24, val_main_v23, val_main_v42, val_main_v41]
  pointwise!

/-- The slices the reference takes for head 1 are head 1's parameters. -/
theorem headP_one : headP (val_main_v100 (F := Ideal) x2) (val_main_v93 (F := Ideal) x3) (val_main_v95 (F := Ideal) x3)
    (val_main_v111 (F := Ideal) x4) (val_main_v116 (F := Ideal) x6) (val_main_v134 (F := Ideal) x5) = headA x2 x3 x4 x5 x6 1 := by
  simp only [headP, headA, val_main_v100, val_main_v99, val_main_v93, val_main_v92, val_main_v95, val_main_v94, val_main_v111,
    val_main_v110, val_main_v116, val_main_v115, val_main_v134, val_main_v133]
  pointwise!

/-- What the reference computes for head 0 of the first graph. -/
theorem v89_eq : val_main_v89 (F := Ideal) x x2 x3 x4 x5 x6 = headR x (val_main_v8 (F := Ideal) x2) (val_main_v1 (F := Ideal) x3)
    (val_main_v3 (F := Ideal) x3) (val_main_v19 (F := Ideal) x4) (val_main_v24 (F := Ideal) x6) (val_main_v42 (F := Ideal) x5) := rfl

/-- What the reference computes for head 1 of the first graph. -/
theorem v181_eq : val_main_v181 (F := Ideal) x x2 x3 x4 x5 x6 = headR x (val_main_v100 (F := Ideal) x2) (val_main_v93 (F := Ideal) x3)
    (val_main_v95 (F := Ideal) x3) (val_main_v111 (F := Ideal) x4) (val_main_v116 (F := Ideal) x6) (val_main_v134 (F := Ideal) x5) := rfl

/-- The second graph's head 0 is computed as the first graph's. -/
theorem v274_eq : val_main_v274 (F := Ideal) x x2 x3 x4 x5 x6 = val_main_v89 (F := Ideal) x x2 x3 x4 x5 x6 := rfl

/-- The second graph's head 1 is computed as the first graph's. -/
theorem v366_eq : val_main_v366 (F := Ideal) x x2 x3 x4 x5 x6 = val_main_v181 (F := Ideal) x x2 x3 x4 x5 x6 := rfl

/-- The heads' embeddings of the first graph side by side, in the reference. -/
theorem v184_at (i : Fin 8) (k : Fin 256) : val_main_v184 (F := Ideal) x x2 x3 x4 x5 x6 (ix2 i k) =
    pack (fun j => emb (headA x2 x3 x4 x5 x6 j) fun n d => x (ix3 i n d)) k := by
  unfold val_main_v184
  rw [v89_eq, v181_eq]
  pointwise [headR_at, headP_zero, headP_one]
  rfl

/-- The heads' embeddings of the second graph side by side, in the reference. -/
theorem v369_eq : val_main_v369 (F := Ideal) x x2 x3 x4 x5 x6 = val_main_v184 (F := Ideal) x x2 x3 x4 x5 x6 := rfl

end Cert.RefAtt

end
-- ==== Proof.RefHead.lean ====
/- The reference's result at an index. -/
module

public import proofs.«01_k».proof.Proof.RefAtt

@[expose] public section

noncomputable section

namespace Cert.RefAtt

open Cert.ReferenceIdeal Cert.ReferenceIdeal.Gen Cert.ReferenceIdeal.Read Cert.Att Idealize.ShloMosaic

/-- The tensor network's slices in the reference, from the two graphs' embeddings. -/
def slicesR (g1 g2 : FVec Ideal S8x256 .f32) (x7 : FVec Ideal S16x512 .f32) (x8 : FVec Ideal S16x256x256 .f32)
    (x9 : FVec Ideal S16 .f32) : FVec Ideal S8x16 .f32 :=
  addf (addf (transpose S8x16 [1, 0] (addf
        (Host.dotGeneral dot_S16x256_S8x256_S16x8_1_1_0_0_n_n none (extractStridedSlice S16x256 ![0, 0] x7 slices_S16x512_S16x256_0_0) g1)
        (Host.dotGeneral dot_S16x256_S8x256_S16x8_1_1_0_0_n_n none (extractStridedSlice S16x256 ![0, 256] x7 slices_S16x512_S16x256_0_256) g2))
      transposes_S16x8_S8x16_1_0)
    (Host.dotGeneral dot_S8x256_S16x256x8_S8x16_1_1_n_0_0_2 none g2
      (Host.dotGeneral dot_S16x256x256_S8x256_S16x256x8_1_1_02_0_n_n none x8 g1)))
    (broadcastInDim S8x16 ![0, 1] bcast_S1x16_S8x16_0_1 (broadcastInDim S1x16 ![1] bcast_S16_S1x16_1 x9))

/-- At an index: the slice of that pair. -/
theorem slicesR_at (g1 g2 : FVec Ideal S8x256 .f32) (x7 : FVec Ideal S16x512 .f32) (x8 : FVec Ideal S16x256x256 .f32)
    (x9 : FVec Ideal S16 .f32) (i : Fin 8) (f : Fin 16) :
    slicesR g1 g2 x7 x8 x9 (ix2 i f) = slices (fun f k => x7 (ix2 f k)) (fun f d e => x8 (ix3 f d e)) (fun f => x9 (ix1 f))
      (fun k => g1 (ix2 i k)) (fun k => g2 (ix2 i k)) f := by
  unfold slicesR
  pointwise [dot_S16x256_S8x256_S16x8_1_1_0_0_n_n, dot_S8x256_S16x256x8_S8x16_1_1_n_0_0_2, dot_S16x256x256_S8x256_S16x256x8_1_1_02_0_n_n]
  simp only [slices, mul_comm]

/-- The slices divided by their L1 norm, negative parts cut, in the reference. -/
def normedR (s : FVec Ideal S8x16 .f32) : FVec Ideal S8x16 .f32 :=
  maximumf (Host.divf s (broadcastInDim S8x16 ![0, 1] bcast_S8x1_S8x16_0_1 (broadcastInDim S8x1 ![0] bcast_S8_S8x1_0
      (maximumf (Host.reduceAdd (Host.absf s) (constant S_ .f32 0x00000000#32) reducesTo_S8x16_S8_d1 h_S_)
        (broadcastInDim S8 ![] bcast_S_S8 (constant S_ .f32 0x2B8CBCCC#32))))))
    (broadcastInDim S8x16 ![] bcast_S_S8x16 (constant S_ .f32 0x00000000#32))

/-- At an index: the normalized slice. -/
theorem normedR_at (s : FVec Ideal S8x16 .f32) (i : Fin 8) (f : Fin 16) :
    normedR s (ix2 i f) = normed (fun f => s (ix2 i f)) f := by
  unfold normedR
  pointwise
  rfl

/-- The projections in the reference. -/
def projsR (y : FVec Ideal S8x16 .f32) (x10 : FVec Ideal S8x16 .f32) (x11 : FVec Ideal S4x8 .f32) (x12 : FVec Ideal S2x4 .f32)
    (x13 : FVec Ideal S1x2 .f32) : FVec Ideal S8x1 .f32 :=
  transpose S8x1 [1, 0] (Host.dotGeneral dot_S1x2_S2x8_S1x8_1_0_0_1_n_n none x13
    (Host.dotGeneral dot_S2x4_S4x8_S2x8_1_0_0_1_n_n none x12
      (Host.dotGeneral dot_S4x8_S8x8_S4x8_1_0_0_1_n_n none x11
        (Host.dotGeneral dot_S8x16_S8x16_S8x8_1_1_0_0_n_n none x10 y)))) transposes_S1x8_S8x1_1_0

/-- At an index: the projections of the pair's slices. -/
theorem projsR_at (y : FVec Ideal S8x16 .f32) (x10 : FVec Ideal S8x16 .f32) (x11 : FVec Ideal S4x8 .f32) (x12 : FVec Ideal S2x4 .f32)
    (x13 : FVec Ideal S1x2 .f32) (i : Fin 8) :
    projsR y x10 x11 x12 x13 (ix2 i 0) = projs (fun a b => x10 (ix2 a b)) (fun a b => x11 (ix2 a b)) (fun a b => x12 (ix2 a b))
      (fun a b => x13 (ix2 a b)) fun f => y (ix2 i f) := by
  unfold projsR
  pointwise [dot_S1x2_S2x8_S1x8_1_0_0_1_n_n, dot_S2x4_S4x8_S2x8_1_0_0_1_n_n, dot_S4x8_S8x8_S4x8_1_0_0_1_n_n, dot_S8x16_S8x16_S8x8_1_1_0_0_n_n]
  simp only [projs, proj, mul_comm]

variable (x0 x1 : FVec Ideal S8x100000x128 .f32) (x2 : FVec Ideal S2x128x128 .f32) (x3 : FVec Ideal S2x1x256 .f32)
  (x4 : FVec Ideal S2x1x128x128 .f32) (x5 : FVec Ideal S2x1x1 .f32) (x6 : FVec Ideal S2x1 .f32) (x7 : FVec Ideal S16x512 .f32)
  (x8 : FVec Ideal S16x256x256 .f32) (x9 : FVec Ideal S16 .f32) (x10 : FVec Ideal S8x16 .f32) (x11 : FVec Ideal S4x8 .f32)
  (x12 : FVec Ideal S2x4 .f32) (x13 : FVec Ideal S1x2 .f32)

/-- The reference's result by these functions. -/
theorem v394_eq : val_main_v394 (F := Ideal) x0 x1 x2 x3 x4 x5 x6 x7 x8 x9 x10 x11 x12 x13 =
    projsR (normedR (slicesR (val_main_v184 (F := Ideal) x0 x2 x3 x4 x5 x6) (val_main_v369 (F := Ideal) x1 x2 x3 x4 x5 x6) x7 x8 x9))
      x10 x11 x12 x13 := rfl

/-- The reference's result for pair `i`: the projections of the normalized slices of the two graphs' embeddings. -/
theorem result_at (i : Fin 8) : val_main_v394 (F := Ideal) x0 x1 x2 x3 x4 x5 x6 x7 x8 x9 x10 x11 x12 x13 (ix2 i 0) =
    projs (fun a b => x10 (ix2 a b)) (fun a b => x11 (ix2 a b)) (fun a b => x12 (ix2 a b)) (fun a b => x13 (ix2 a b))
      (normed (slices (fun f k => x7 (ix2 f k)) (fun f d e => x8 (ix3 f d e)) (fun f => x9 (ix1 f))
        (pack fun j => emb (headA x2 x3 x4 x5 x6 j) fun n d => x0 (ix3 i n d))
        (pack fun j => emb (headA x2 x3 x4 x5 x6 j) fun n d => x1 (ix3 i n d)))) := by
  rw [v394_eq, projsR_at]
  simp only [normedR_at, slicesR_at, v369_eq, v184_at]

end Cert.RefAtt

end
-- ==== Proof.Sums.lean ====
/- The kernel's first call: each graph's nodes summed, block after block, into one row per side of the pair. -/
module

public import proofs.«01_k».proof.Proof.Gen.KernelIdeal.Frame
public import Idealize.ShloMosaic.Lib.Pipeline.ValueKit
public import Idealize.ShloMosaic.Lib.Pointwise
public import proofs.«01_k».proof.Proof.Vocab

@[expose] public section

set_option maxRecDepth 16384

noncomputable section

namespace Cert.Sums

open Cert.KernelIdeal Cert.KernelIdeal.Gen Cert.Att Idealize.ShloMosaic Idealize.ShloMosaic.TcCoe

/-- A block's column sums, one row per side. -/
def part (x y : Vec Ideal S1x10000x128 .f32) (j : S1x2x128.Idx) : EReal :=
  ∑ n : Fin 10000, side x y (j 1) (ix3 0 n (j 2))

/-- What the body stores: the running sum plus the block's column sums. -/
theorem pay (v3 v7 : Vec Ideal S1x10000x128 .f32) (v11 : Vec Ideal S1x2x128 .f32) (j : S1x2x128.Idx) :
    k0_pay2 v3 v7 v11 j = v11 j + part v3 v7 j := by
  obtain ⟨a, s, d, rfl⟩ : ∃ (a : Fin 1) (s : Fin 2) (d : Fin 128), j = ix3 a s d := ⟨j 0, j 1, j 2, eq_ix3 j⟩
  obtain rfl : a = 0 := Subsingleton.elim _ _
  unfold k0_pay2 part
  fin_cases s <;> pointwise [side]

/-- The block the first point stores before adding: zeros. -/
theorem pay_zero (j : S1x2x128.Idx) : k0_pay1 (F := Ideal) j = 0 := by
  unfold k0_pay1
  pointwise

variable (V : (c : Dev nD) → (b : Ref sig .tc) → Buf (Elt Ideal) ((c : Thread nD τ).loc b))

/-- The block index of window 0 at a point. -/
theorem idx0 : ∀ t : Fin cfg0.N, win0_0.index t = ![t.val / 10, t.val % 10, 0] :=
  (by decide +kernel : ∀ t : Fin grid0.N, _)
/-- The block index of window 1 at a point. -/
theorem idx1 : ∀ t : Fin cfg0.N, win0_1.index t = ![t.val / 10, t.val % 10, 0] :=
  (by decide +kernel : ∀ t : Fin grid0.N, _)
/-- The block index of window 2 at a point. -/
theorem idx2 : ∀ t : Fin cfg0.N, win0_2.index t = ![t.val / 10, 0, 0] :=
  (by decide +kernel : ∀ t : Fin grid0.N, _)

/-- After the last block of a pair, the output block holds the columns' sums over the pair's ten blocks. -/
theorem outs (c : Dev nD) (t : Fin cfg0.N) (ht : t.val % 10 = 9) (j : S1x2x128.Idx) :
    outsAt0 V c t.val t.isLt j = ∑ k : Fin 10,
      part (iblk0 V c 0 ⟨10 * (t.val / 10) + k.val, Pipeline.run_point_lt_of_flush t ht k⟩)
        (iblk0 V c 1 ⟨10 * (t.val / 10) + k.val, Pipeline.run_point_lt_of_flush t ht k⟩) j := by
  rw [Pipeline.eq_sum_fin_of_reset_step_apply_of_flush (fun n h => outsAt0 V c n h) 10 (fun _ => (0 : EReal))
    (fun t j => part (iblk0 V c 0 t) (iblk0 V c 1 t) j)
    (fun t h j => by rw [outsAt0_A V c t h]; frame_out; rw [pay, pay_zero])
    (fun t h j => by rw [outsAt0_B V c t h]; frame_out; rw [pay])
    t ht j, zero_add]

/-- The sums' array: of each pair and side, the total of the nodes' features. -/
def G (x y : S8x100000x128.Idx → EReal) : S8x2x128.Idx → EReal := fun i =>
  total (fun n d => side x y (i 1) (ix3 (i 0) n d)) (i 2)

/-- The first call's result. -/
theorem final (c : Dev nD) : (dat0 V c).arrAt 2 cfg0.N = G (V c main_arg0) (V c main_arg1) := by
  refine (dat0 V c).arrAt_eq_of_covers 2 _ (by decide +kernel) fun t hf y => ?_
  have ht : t.val % 10 = 9 := (flush0_2 t).mp hf
  blk_simp
  rw [after0_2, outs V c t ht]
  simp only [part, G, total]
  refine Fin.sum_mul_add_congr fun k n hl => ?_
  have hN : t.val < 80 := lt_of_lt_of_eq t.isLt N_0
  have h1 : (win0_2.blk t).view.emb y 1 = y 1 := Fin.ext (by blk_simp [idx2])
  refine side_congr h1 ?_ ?_
  · blk_simp [iblk0]
    congr 1
    blk_ext [idx0, idx2]
  · blk_simp [iblk0]
    congr 1
    blk_ext [idx1, idx2]

end Cert.Sums
-- ==== Proof.Pool.lean ====
/- What one block of nodes goes through in the kernel's pooling calls, once for both heads, both sides of a pair and both
   calls. -/
module

public import proofs.«01_k».proof.Proof.Sums

@[expose] public section

set_option maxRecDepth 16384

noncomputable section

namespace Cert.Pool

open Cert.KernelIdeal Cert.KernelIdeal.Gen Cert.Att Idealize.ShloMosaic Idealize.ShloMosaic.TcCoe

/-! ## The block's operations -/

/-- The first and the second matrix of a pair. -/
def mat0 (w : FVec Ideal S2x128x128 .f32) : FVec Ideal S128x128 .f32 :=
  shapeCast S128x128 (extractStridedSlice S1x128x128 ![0, 0, 0] w slices_S2x128x128_o0_0_0_S1x128x128) shapeCasts_S1x128x128_S128x128
@[inherit_doc mat0]
def mat1 (w : FVec Ideal S2x128x128 .f32) : FVec Ideal S128x128 .f32 :=
  shapeCast S128x128 (extractStridedSlice S1x128x128 ![1, 0, 0] w slices_S2x128x128_o1_0_0_S1x128x128) shapeCasts_S1x128x128_S128x128

/-- The first and the second row of a pair. -/
def row0 (v : FVec Ideal S2x128 .f32) : FVec Ideal S1x128 .f32 := extractStridedSlice S1x128 ![0, 0] v slices_S2x128_o0_0_S1x128
@[inherit_doc row0]
def row1 (v : FVec Ideal S2x128 .f32) : FVec Ideal S1x128 .f32 := extractStridedSlice S1x128 ![1, 0] v slices_S2x128_o1_0_S1x128

/-- A row of sums scaled by the reciprocal of the number of nodes. -/
def meanK (v : FVec Ideal S1x128 .f32) : FVec Ideal S1x128 .f32 :=
  mulf v (broadcast S1x128 (Named.named κ "inv_n" 0x3727C5AC#32))

/-- A head's context vector. -/
def ctxK (m : FVec Ideal S1x128 .f32) (w : FVec Ideal S128x128 .f32) : FVec Ideal S1x128 .f32 :=
  tanh (matmul dot_S1x128_S128x128_S1x128_1_0_0_1_n_n none m w (constant S1x128 .f32 0x00000000#32))

/-- The bilinear form's matrix on the context vector. -/
def bilK (h : FVec Ideal S1x128 .f32) (w : FVec Ideal S128x128 .f32) : FVec Ideal S1x128 .f32 :=
  matmul dot_S1x128_S128x128_S1x128_1_1_0_0_n_n none h w (constant S1x128 .f32 0x00000000#32)

/-- The part of a score that does not depend on the node. -/
def offK (h vb : FVec Ideal S1x128 .f32) (b : EReal) : FVec Ideal S1x1 .f32 :=
  addf (shapeCast S1x1 (multiReduction .add [1] S1 (mulf (extf .f32 (truncf .bf16 h bitsLt_bf16_f32) bitsLt_bf16_f32)
    (extf .f32 (truncf .bf16 vb bitsLt_bf16_f32) bitsLt_bf16_f32)) 0x00000000#32 reduces_S1x128_S1 (.inl rfl) rfl) shapeCasts_S1_S1x1)
    (broadcast (α := Elt Ideal .f32) S1x1 b)

/-- The scores from their node part and their common part. -/
def sumK (t : FVec Ideal S10000x1 .f32) (o : FVec Ideal S1x1 .f32) : FVec Ideal S10000x1 .f32 :=
  addf t (broadcastTo S10000x1 o broadcasts_S1x1_S10000x1)

/-- The scores normalized, through the sigmoid. -/
def sigK (t : FVec Ideal S10000x1 .f32) : FVec Ideal S10000x1 .f32 :=
  logistic (divf t (maximumf (absf t) (broadcast S10000x1 (Scalar.ofBits .f32 0x2B8CBCCC#32))))

/-- The attention weights from the scores' two parts. -/
def gateK (t : FVec Ideal S10000x1 .f32) (o : FVec Ideal S1x1 .f32) (u : EReal) : FVec Ideal S10000x1 .f32 :=
  mulf (sigK (sumK t o)) (broadcast (α := Elt Ideal .f32) S10000x1 u)

/-- The nodes against both heads' two rows each. -/
def fourK (x : FVec Ideal S10000x128 .f32) (a b c d : FVec Ideal S1x128 .f32) : FVec Ideal S10000x4 .f32 :=
  matmul dot_S10000x128_S4x128_S10000x4_1_1_0_0_n_n none x
    (concatenate S4x128 0 [⟨S1x128, a⟩, ⟨S1x128, b⟩, ⟨S1x128, c⟩, ⟨S1x128, d⟩] concatenates_S1x128_S1x128_S1x128_S1x128_S4x128_d0)
    (constant S10000x4 .f32 0x00000000#32)

/-- The node part of the first head's scores. -/
def score0 (y : FVec Ideal S10000x4 .f32) : FVec Ideal S10000x1 .f32 :=
  addf (extractStridedSlice S10000x1 ![0, 0] y slices_S10000x4_o0_0_S10000x1) (extractStridedSlice S10000x1 ![0, 1] y slices_S10000x4_o0_1_S10000x1)

/-- The node part of the second head's scores. -/
def score1 (y : FVec Ideal S10000x4 .f32) : FVec Ideal S10000x1 .f32 :=
  addf (extractStridedSlice S10000x1 ![0, 2] y slices_S10000x4_o0_2_S10000x1) (extractStridedSlice S10000x1 ![0, 3] y slices_S10000x4_o0_3_S10000x1)

/-- The node part of the scores of one head. -/
def scoreK (x : FVec Ideal S10000x128 .f32) (a b : FVec Ideal S1x128 .f32) : FVec Ideal S10000x1 .f32 :=
  let y := matmul dot_S10000x128_S2x128_S10000x2_1_1_0_0_n_n none x
    (concatenate S2x128 0 [⟨S1x128, a⟩, ⟨S1x128, b⟩] concatenates_S1x128_S1x128_S2x128_d0) (constant S10000x2 .f32 0x00000000#32)
  addf (extractStridedSlice S10000x1 ![0, 0] y slices_S10000x2_o0_0_S10000x1) (extractStridedSlice S10000x1 ![0, 1] y slices_S10000x2_o0_1_S10000x1)

/-- Two columns side by side. -/
def cols (a b : FVec Ideal S10000x1 .f32) : FVec Ideal S10000x2 .f32 :=
  concatenate S10000x2 1 [⟨S10000x1, a⟩, ⟨S10000x1, b⟩] concatenates_S10000x1_S10000x1_S10000x2_d1

/-- Both heads' attention weights of a block. -/
def attK (W Wt : FVec Ideal S2x128x128 .f32) (Va Vb : FVec Ideal S2x128 .f32) (m : FVec Ideal S1x128 .f32) (b0 b1 u0 u1 : EReal)
    (x : FVec Ideal S10000x128 .f32) : FVec Ideal S10000x2 .f32 :=
  let y := fourK x (row0 Va) (bilK (ctxK m (mat0 W)) (mat0 Wt)) (row1 Va) (bilK (ctxK m (mat1 W)) (mat1 Wt))
  cols (gateK (score0 y) (offK (ctxK m (mat0 W)) (row0 Vb) b0) u0) (gateK (score1 y) (offK (ctxK m (mat1 W)) (row1 Vb) b1) u1)

/-- The weighted sums of a block's nodes. -/
def poolK (a : FVec Ideal S10000x2 .f32) (x : FVec Ideal S10000x128 .f32) : FVec Ideal S2x128 .f32 :=
  matmul dot_S10000x2_S10000x128_S2x128_0_0_1_1_n_n (some .fp32) a x (constant S2x128 .f32 0x00000000#32)

/-- The nodes weighted by the first and by the second column. -/
def weigh0 (a : FVec Ideal S10000x2 .f32) (x : FVec Ideal S10000x128 .f32) : FVec Ideal S10000x128 .f32 :=
  mulf (broadcastTo S10000x128 (extractStridedSlice S10000x1 ![0, 0] a slices_S10000x2_o0_0_S10000x1) broadcasts_S10000x1_S10000x128) x
@[inherit_doc weigh0]
def weigh1 (a : FVec Ideal S10000x2 .f32) (x : FVec Ideal S10000x128 .f32) : FVec Ideal S10000x128 .f32 :=
  mulf (broadcastTo S10000x128 (extractStridedSlice S10000x1 ![0, 1] a slices_S10000x2_o0_1_S10000x1) broadcasts_S10000x1_S10000x128) x

/-- The weighted sums of two heads' own nodes: one product, whose off-diagonal halves are dropped. -/
def pairK (a0 a1 : FVec Ideal S10000x1 .f32) (y0 y1 : FVec Ideal S10000x128 .f32) : FVec Ideal S2x128 .f32 :=
  let z := matmul dot_S10000x2_S10000x256_S2x256_0_0_1_1_n_n none (cols a0 a1)
    (concatenate S10000x256 1 [⟨S10000x128, y0⟩, ⟨S10000x128, y1⟩] concatenates_S10000x128_S10000x128_S10000x256_d1)
    (constant S2x256 .f32 0x00000000#32)
  concatenate S2x128 0 [⟨S1x128, extractStridedSlice S1x128 ![0, 0] z slices_S2x256_o0_0_S1x128⟩,
    ⟨S1x128, extractStridedSlice S1x128 ![1, 128] z slices_S2x256_o1_128_S1x128⟩] concatenates_S1x128_S1x128_S2x128_d0

/-- One head's weights of nodes already weighted once. -/
def againK (W Wt : FVec Ideal S128x128 .f32) (va vb m : FVec Ideal S1x128 .f32) (b u : EReal)
    (x : FVec Ideal S10000x128 .f32) : FVec Ideal S10000x1 .f32 :=
  gateK (scoreK x va (bilK (ctxK m W) Wt)) (offK (ctxK m W) vb b) u

/-- The two sides' rows as one block. -/
def blockK (p q : FVec Ideal S2x128 .f32) : FVec Ideal S1x2x2x128 .f32 :=
  shapeCast S1x2x2x128 (concatenate S4x128 0 [⟨S2x128, p⟩, ⟨S2x128, q⟩] concatenates_S2x128_S2x128_S4x128_d0) shapeCasts_S4x128_S1x2x2x128

/-- A block of nodes without its leading axis. -/
def nodes (x : FVec Ideal S1x10000x128 .f32) : FVec Ideal S10000x128 .f32 := shapeCast S10000x128 x shapeCasts_S1x10000x128_S10000x128

/-! ## At an index -/

/-- At an index: the entry of that matrix. -/
theorem mat0_at (w : FVec Ideal S2x128x128 .f32) (d e : Fin 128) : mat0 w (ix2 d e) = w (ix3 0 d e) := by
  unfold mat0; pointwise
/-- At an index: the entry of that matrix. -/
theorem mat1_at (w : FVec Ideal S2x128x128 .f32) (d e : Fin 128) : mat1 w (ix2 d e) = w (ix3 1 d e) := by
  unfold mat1; pointwise
/-- At an index: the entry of that row. -/
theorem row0_at (w : FVec Ideal S2x128 .f32) (d : Fin 128) : row0 w (ix2 0 d) = w (ix2 0 d) := by
  unfold row0; pointwise
/-- At an index: the entry of that row. -/
theorem row1_at (w : FVec Ideal S2x128 .f32) (d : Fin 128) : row1 w (ix2 0 d) = w (ix2 1 d) := by
  unfold row1; pointwise

/-- The named constant is the reciprocal of the number of nodes. -/
theorem inv_n : (Named.named (F := Ideal) (φ := .f32) κ "inv_n" 0x3727C5AC#32 : EReal) = invN :=
  IdealRules.named_const.ideal_named_scalar _ _ _ _ rfl

/-- At an index: the scaled sum. -/
theorem meanK_at (v : FVec Ideal S1x128 .f32) (d : Fin 128) : meanK v (ix2 0 d) = scaled (fun d => v (ix2 0 d)) d := by
  unfold meanK scaled; pointwise; rw [inv_n]

/-- At an index: the context vector. -/
theorem ctxK_at (m : FVec Ideal S1x128 .f32) (w : FVec Ideal S128x128 .f32) (e : Fin 128) :
    ctxK m w (ix2 0 e) = ctx (fun d e => w (ix2 d e)) (fun d => m (ix2 0 d)) e := by
  unfold ctxK ctx; pointwise [dot_S1x128_S128x128_S1x128_1_0_0_1_n_n]

/-- At an index: the matrix on the context vector. -/
theorem bilK_at (h : FVec Ideal S1x128 .f32) (w : FVec Ideal S128x128 .f32) (d : Fin 128) :
    bilK h w (ix2 0 d) = bil (fun d e => w (ix2 d e)) (fun d => h (ix2 0 d)) d := by
  unfold bilK bil; pointwise [dot_S1x128_S128x128_S1x128_1_1_0_0_n_n]

/-- At its one index: the part common to the nodes. -/
theorem offK_at (h vb : FVec Ideal S1x128 .f32) (b : EReal) :
    offK h vb b (ix2 0 0) = off (fun d => vb (ix2 0 d)) b (fun d => h (ix2 0 d)) := by
  unfold offK off; pointwise

/-- At a node: its attention weight. -/
theorem gateK_at (t : FVec Ideal S10000x1 .f32) (o : FVec Ideal S1x1 .f32) (u : EReal) (n : Fin 10000) :
    gateK t o u (ix2 n 0) = gate u (t (ix2 n 0) + o (ix2 0 0)) := by
  unfold gateK sigK sumK gate eps; pointwise; rfl

/-- At a node: the sums against the first two rows. -/
theorem score0_at (x : FVec Ideal S10000x128 .f32) (a b c d : FVec Ideal S1x128 .f32) (n : Fin 10000) :
    score0 (fourK x a b c d) (ix2 n 0) = (∑ k, x (ix2 n k) * a (ix2 0 k)) + ∑ k, x (ix2 n k) * b (ix2 0 k) := by
  unfold score0 fourK; pointwise [dot_S10000x128_S4x128_S10000x4_1_1_0_0_n_n]

/-- At a node: the sums against the last two rows. -/
theorem score1_at (x : FVec Ideal S10000x128 .f32) (a b c d : FVec Ideal S1x128 .f32) (n : Fin 10000) :
    score1 (fourK x a b c d) (ix2 n 0) = (∑ k, x (ix2 n k) * c (ix2 0 k)) + ∑ k, x (ix2 n k) * d (ix2 0 k) := by
  unfold score1 fourK; pointwise [dot_S10000x128_S4x128_S10000x4_1_1_0_0_n_n]

/-- At a node: the sums against both rows. -/
theorem scoreK_at (x : FVec Ideal S10000x128 .f32) (a b : FVec Ideal S1x128 .f32) (n : Fin 10000) :
    scoreK x a b (ix2 n 0) = (∑ k, x (ix2 n k) * a (ix2 0 k)) + ∑ k, x (ix2 n k) * b (ix2 0 k) := by
  unfold scoreK; pointwise [dot_S10000x128_S2x128_S10000x2_1_1_0_0_n_n]

/-- At an index: the column of that side. -/
theorem cols_at (a b : FVec Ideal S10000x1 .f32) (n : Fin 10000) (i : Fin 2) :
    cols a b (ix2 n i) = side a b i (ix2 n 0) := by
  unfold cols side; fin_cases i <;> pointwise

/-- At an index: the weighted sum of the nodes. -/
theorem poolK_at (a : FVec Ideal S10000x2 .f32) (x : FVec Ideal S10000x128 .f32) (i : Fin 2) (d : Fin 128) :
    poolK a x (ix2 i d) = ∑ n, a (ix2 n i) * x (ix2 n d) := by
  unfold poolK; pointwise [dot_S10000x2_S10000x128_S2x128_0_0_1_1_n_n]

/-- At an index: the node by the first weight. -/
theorem weigh0_at (a : FVec Ideal S10000x2 .f32) (x : FVec Ideal S10000x128 .f32) (n : Fin 10000) (d : Fin 128) :
    weigh0 a x (ix2 n d) = a (ix2 n 0) * x (ix2 n d) := by
  unfold weigh0; pointwise
/-- At an index: the node by the second weight. -/
theorem weigh1_at (a : FVec Ideal S10000x2 .f32) (x : FVec Ideal S10000x128 .f32) (n : Fin 10000) (d : Fin 128) :
    weigh1 a x (ix2 n d) = a (ix2 n 1) * x (ix2 n d) := by
  unfold weigh1; pointwise

/-- At an index: the weighted sum of that head's own nodes. -/
theorem pairK_at (a0 a1 : FVec Ideal S10000x1 .f32) (y0 y1 : FVec Ideal S10000x128 .f32) (i : Fin 2) (d : Fin 128) :
    pairK a0 a1 y0 y1 (ix2 i d) = ∑ n, side a0 a1 i (ix2 n 0) * side y0 y1 i (ix2 n d) := by
  unfold pairK
  fin_cases i <;> pointwise [dot_S10000x2_S10000x256_S2x256_0_0_1_1_n_n, cols_at, side]

/-- At an index: the row of that side. -/
theorem blockK_at (p q : FVec Ideal S2x128 .f32) (s i : Fin 2) (d : Fin 128) :
    blockK p q (ix4 0 s i d) = side p q s (ix2 i d) := by
  unfold blockK side
  fin_cases s <;> fin_cases i <;> pointwise

/-- At an index: the node's feature. -/
theorem nodes_at (x : FVec Ideal S1x10000x128 .f32) (n : Fin 10000) (d : Fin 128) : nodes x (ix2 n d) = x (ix3 0 n d) := by
  unfold nodes; pointwise

/-! ## The attention of a head -/

/-- The head whose parameters are the `i`-th of each pair. -/
def headK (W Wt : FVec Ideal S2x128x128 .f32) (Va Vb : FVec Ideal S2x128 .f32) (b u : FVec Ideal S2 .f32) (i : Fin 2) : Head where
  W := fun d e => W (ix3 i d e)
  va := fun d => Va (ix2 i d)
  vb := fun d => Vb (ix2 i d)
  Wt := fun d e => Wt (ix3 i d e)
  u := u (ix1 i)
  b := b (ix1 i)

variable (W Wt : FVec Ideal S2x128x128 .f32) (Va Vb : FVec Ideal S2x128 .f32) (b u : FVec Ideal S2 .f32)

/-- Both heads' weights of a block's nodes. -/
theorem attK_at (m : FVec Ideal S1x128 .f32) (x : FVec Ideal S10000x128 .f32) (n : Fin 10000) (i : Fin 2) :
    attK W Wt Va Vb m (b (ix1 0)) (b (ix1 1)) (u (ix1 0)) (u (ix1 1)) x (ix2 n i)
      = att (headK W Wt Va Vb b u i) (fun d => m (ix2 0 d)) (fun d => x (ix2 n d)) := by
  unfold attK att score headK
  rw [cols_at]
  fin_cases i <;> simp only [side, Fin.zero_eta, Fin.mk_one, if_true, one_ne_zero, if_false, gateK_at, score0_at, score1_at, offK_at, bilK_at, ctxK_at,
    mat0_at, mat1_at, row0_at, row1_at]

/-- The first head's weights of nodes already weighted. -/
theorem againK_at0 (m : FVec Ideal S1x128 .f32) (x : FVec Ideal S10000x128 .f32) (n : Fin 10000) :
    againK (mat0 W) (mat0 Wt) (row0 Va) (row0 Vb) m (b (ix1 0)) (u (ix1 0)) x (ix2 n 0)
      = att (headK W Wt Va Vb b u 0) (fun d => m (ix2 0 d)) (fun d => x (ix2 n d)) := by
  unfold againK att score headK
  simp only [gateK_at, scoreK_at, offK_at, bilK_at, ctxK_at, mat0_at, row0_at]

/-- The second head's weights of nodes already weighted. -/
theorem againK_at1 (m : FVec Ideal S1x128 .f32) (x : FVec Ideal S10000x128 .f32) (n : Fin 10000) :
    againK (mat1 W) (mat1 Wt) (row1 Va) (row1 Vb) m (b (ix1 1)) (u (ix1 1)) x (ix2 n 0)
      = att (headK W Wt Va Vb b u 1) (fun d => m (ix2 0 d)) (fun d => x (ix2 n d)) := by
  unfold againK att score headK
  simp only [gateK_at, scoreK_at, offK_at, bilK_at, ctxK_at, mat1_at, row1_at]

/-- A head's weighted sum of a block's nodes. -/
theorem once_at (m : FVec Ideal S1x128 .f32) (x : FVec Ideal S10000x128 .f32) (i : Fin 2) (d : Fin 128) :
    poolK (attK W Wt Va Vb m (b (ix1 0)) (b (ix1 1)) (u (ix1 0)) (u (ix1 1)) x) x (ix2 i d)
      = ∑ n, weigh (headK W Wt Va Vb b u i) (fun d => m (ix2 0 d)) (fun d => x (ix2 n d)) d := by
  rw [poolK_at]; simp only [attK_at, weigh]

end Cert.Pool
-- ==== Proof.Pool1.lean ====
/- The kernel's second call: for each pair, side and head, the sum of the nodes weighted once. -/
module

public import proofs.«01_k».proof.Proof.Pool

@[expose] public section

set_option maxRecDepth 16384

noncomputable section

namespace Cert.Pool1

open Cert.KernelIdeal Cert.KernelIdeal.Gen Cert.Att Cert.Pool Idealize.ShloMosaic Idealize.ShloMosaic.TcCoe

/-- The first and the second of a pair of scalars, as loaded. -/
def fst (x : FVec Ideal S2 .f32) (h : 0 < S1.numel) : Elt Ideal .f32 :=
  View.ld (Val := Elt Ideal) (e' := .f32) x (Rect.unit (s := S2) ![0] S1.size inb_S2_S1_0) (Shape.Idx.first h)
@[inherit_doc fst]
def snd (x : FVec Ideal S2 .f32) (h : 0 < S1.numel) : Elt Ideal .f32 :=
  View.ld (Val := Elt Ideal) (e' := .f32) x (Rect.unit (s := S2) ![1] S1.size inb_S2_S1_1) (Shape.Idx.first h)

/-- It is the first entry. -/
theorem fst_eq (x : FVec Ideal S2 .f32) (h : 0 < S1.numel) : fst x h = x (ix1 0) := by
  refine congrArg x (funext fun a => Fin.ext ?_)
  fin_cases a; rfl
/-- It is the second entry. -/
theorem snd_eq (x : FVec Ideal S2 .f32) (h : 0 < S1.numel) : snd x h = x (ix1 1) := by
  refine congrArg x (funext fun a => Fin.ext ?_)
  fin_cases a; rfl

/-- The weighted sums of one block, as the body computes them. -/
def part (x0 x1 : FVec Ideal S1x10000x128 .f32) (x2 : FVec Ideal S1x2x128 .f32) (W Wt : FVec Ideal S2x128x128 .f32)
    (Va Vb : FVec Ideal S2x128 .f32) (b u : FVec Ideal S2 .f32) : FVec Ideal S1x2x2x128 .f32 :=
  let s := shapeCast S2x128 x2 shapeCasts_S1x2x128_S2x128
  blockK (poolK (attK W Wt Va Vb (meanK (row0 s)) (b (ix1 0)) (b (ix1 1)) (u (ix1 0)) (u (ix1 1)) (nodes x0)) (nodes x0))
    (poolK (attK W Wt Va Vb (meanK (row1 s)) (b (ix1 0)) (b (ix1 1)) (u (ix1 0)) (u (ix1 1)) (nodes x1)) (nodes x1))

/-- At an index: a head's weighted sum of one side's nodes. -/
theorem part_at (x0 x1 : FVec Ideal S1x10000x128 .f32) (x2 : FVec Ideal S1x2x128 .f32) (W Wt : FVec Ideal S2x128x128 .f32)
    (Va Vb : FVec Ideal S2x128 .f32) (b u : FVec Ideal S2 .f32) (s i : Fin 2) (d : Fin 128) :
    part x0 x1 x2 W Wt Va Vb b u (ix4 0 s i d) = ∑ n : Fin 10000,
      weigh (headK W Wt Va Vb b u i) (scaled fun d => x2 (ix3 0 s d)) (fun d => side x0 x1 s (ix3 0 n d)) d := by
  have hs : ∀ (s : Fin 2) (d : Fin 128), shapeCast S2x128 x2 shapeCasts_S1x2x128_S2x128 (ix2 s d) = x2 (ix3 0 s d) := by
    intro s d; pointwise
  unfold part
  rw [blockK_at]
  fin_cases s <;> simp only [side, Fin.zero_eta, Fin.mk_one, if_true, one_ne_zero, if_false, once_at, meanK_at, row0_at, row1_at, hs, nodes_at]

/-- What the body stores: the running sums plus the block's weighted sums. -/
theorem pay (x0 x1 : FVec Ideal S1x10000x128 .f32) (x2 : FVec Ideal S1x2x128 .f32) (x3 x4 : FVec Ideal S2x128x128 .f32)
    (x5 x6 : FVec Ideal S2x128 .f32) (x7 x8 : FVec Ideal S2 .f32) (acc : FVec Ideal S1x2x2x128 .f32)
    (h : 0 < S1.numel) :
   k1_pay2
      (k1_pay15 (k1_pay4 x5) (k1_pay5 x6) (k1_pay7 x0) (k1_pay8 x2) (k1_pay10 x3 x4 x2)
        (k1_pay11 x3 x6 x2 (fst x7 h)) (k1_pay12 x5)
        (k1_pay13 x3) (k1_pay14 x4) (snd x7 h) (fst x8 h) (snd x8 h))
      (k1_pay16 x1)
      (k1_pay20 x3 (k1_pay5 x6) (k1_pay6 x2) (snd x7 h))
      (k1_pay21 x3 (k1_pay3 x4) (k1_pay4 x5) (k1_pay6 x2) (k1_pay16 x1))
      (k1_pay22 x3 (k1_pay3 x4) (k1_pay4 x5) (k1_pay5 x6) (k1_pay6 x2) (k1_pay16 x1) (fst x7 h))
      (k1_pay23 x3 (k1_pay3 x4) (k1_pay4 x5) (k1_pay5 x6) (k1_pay6 x2) (k1_pay16 x1) (fst x7 h))
      (FloatOps.ofBits FTy.f32 0x2B8CBCCC#32) (fst x8 h) (snd x8 h) acc
    = addf acc (part x0 x1 x2 x3 x4 x5 x6 x7 x8) := by
  rw [fst_eq x7, fst_eq x8, snd_eq x7, snd_eq x8]
  have h3 : k1_pay3 x4 = x4 := shapeCast_self _ _
  have h4 : k1_pay4 x5 = x5 := shapeCast_self _ _
  have h5 : k1_pay5 x6 = x6 := shapeCast_self _ _
  unfold k1_pay2 k1_pay10 k1_pay11 k1_pay12 k1_pay14
  rw [shapeCast_self, h3, h4, h5]
  rfl

/-- The block the first point stores before adding: zeros. -/
theorem pay_zero (j : S1x2x2x128.Idx) : k1_pay1 (F := Ideal) j = 0 := by
  unfold k1_pay1
  pointwise

variable (V : (c : Dev nD) → (b : Ref sig .tc) → Buf (Elt Ideal) ((c : Thread nD τ).loc b))

/-- The weighted sums of the block at a point. -/
def partAt (c : Dev nD) (t : Fin cfg1.N) : S1x2x2x128.Idx → EReal :=
  part (iblk1 V c 0 t) (iblk1 V c 1 t) (iblk1 V c 2 t) (iblk1 V c 3 t) (iblk1 V c 4 t) (iblk1 V c 5 t) (iblk1 V c 6 t)
    (iblk1 V c 7 t) (iblk1 V c 8 t)

/-- After the last block of a pair, the output block holds the weighted sums over the pair's ten blocks. -/
theorem outs (c : Dev nD) (t : Fin cfg1.N) (ht : t.val % 10 = 9) (j : S1x2x2x128.Idx) :
    outsAt1 V c t.val t.isLt j = ∑ k : Fin 10, partAt V c ⟨10 * (t.val / 10) + k.val, Pipeline.run_point_lt_of_flush t ht k⟩ j := by
  rw [Pipeline.eq_sum_fin_of_reset_step_apply_of_flush (fun n h => outsAt1 V c n h) 10 (fun _ => (0 : EReal)) (partAt V c)
    (fun t h j => by
      rw [outsAt1_A V c t h]; frame_out
      refine (congrFun (pay (iblk1 V c 0 t) (iblk1 V c 1 t) (iblk1 V c 2 t) (iblk1 V c 3 t) (iblk1 V c 4 t) (iblk1 V c 5 t)
        (iblk1 V c 6 t) (iblk1 V c 7 t) (iblk1 V c 8 t) _ _) j).trans ?_
      exact congrArg (· + partAt V c t j) (pay_zero j))
    (fun t h j => by
      rw [outsAt1_B V c t h]; frame_out
      exact congrFun (pay (iblk1 V c 0 t) (iblk1 V c 1 t) (iblk1 V c 2 t) (iblk1 V c 3 t) (iblk1 V c 4 t) (iblk1 V c 5 t)
        (iblk1 V c 6 t) (iblk1 V c 7 t) (iblk1 V c 8 t) _ _) j)
    t ht j, zero_add]

/-! ## The windows' blocks and the result -/

/-- The block index of window 0 at a point. -/
theorem idx0 : ∀ t : Fin cfg1.N, win1_0.index t = ![t.val / 10, t.val % 10, 0] :=
  (by decide +kernel : ∀ t : Fin grid1.N, _)
/-- The block index of window 1 at a point. -/
theorem idx1 : ∀ t : Fin cfg1.N, win1_1.index t = ![t.val / 10, t.val % 10, 0] :=
  (by decide +kernel : ∀ t : Fin grid1.N, _)
/-- The block index of window 2 at a point. -/
theorem idx2 : ∀ t : Fin cfg1.N, win1_2.index t = ![t.val / 10, 0, 0] :=
  (by decide +kernel : ∀ t : Fin grid1.N, _)
/-- The block index of window 9 at a point. -/
theorem idx9 : ∀ t : Fin cfg1.N, win1_9.index t = ![t.val / 10, 0, 0, 0] :=
  (by decide +kernel : ∀ t : Fin grid1.N, _)
/-- The windows whose block is their whole array stay at the first block. -/
theorem idx_whole : ∀ t : Fin cfg1.N, win1_3.index t = ![0, 0, 0] ∧ win1_4.index t = ![0, 0, 0] ∧ win1_5.index t = ![0, 0] ∧
    win1_6.index t = ![0, 0] ∧ win1_7.index t = ![0] ∧ win1_8.index t = ![0] :=
  (by decide +kernel : ∀ t : Fin grid1.N, _)
/-- The block of such a window is its array. -/
theorem blk_whole (c : Dev nD) (t : Fin cfg1.N) : iblk1 V c 3 t = V c main_arg2 ∧ iblk1 V c 4 t = V c main_v4 ∧ iblk1 V c 5 t = V c main_v1 ∧
    iblk1 V c 6 t = V c main_v3 ∧ iblk1 V c 7 t = V c main_v6 ∧ iblk1 V c 8 t = V c main_v5 := by
  obtain ⟨i3, i4, i5, i6, i7, i8⟩ := idx_whole t
  refine ⟨?_, ?_, ?_, ?_, ?_, ?_⟩ <;> (funext y; blk_simp [iblk1]; congr 1; blk_ext [i3, i4, i5, i6, i7, i8])

/-- The weighted sums' array: of each pair, side and head, the sum of the weighted nodes. -/
def G (x y : S8x100000x128.Idx → EReal) (s : S8x2x128.Idx → EReal) (H : Fin 2 → Head) : S8x2x2x128.Idx → EReal := fun i =>
  total (fun n => weigh (H (i 2)) (scaled fun d => s (ix3 (i 0) (i 1) d)) (fun d => side x y (i 1) (ix3 (i 0) n d))) (i 3)

/-- The second call's result. -/
theorem final (c : Dev nD) : (dat1 V c).arrAt 9 cfg1.N = G (V c main_arg0) (V c main_arg1) (V c main_v7)
    (headK (V c main_arg2) (V c main_v4) (V c main_v1) (V c main_v3) (V c main_v6) (V c main_v5)) := by
  refine (dat1 V c).arrAt_eq_of_covers 9 _ (by decide +kernel) fun t hf y => ?_
  have ht : t.val % 10 = 9 := (flush1_9 t).mp hf
  have hN : t.val < 80 := lt_of_lt_of_eq t.isLt N_1
  obtain ⟨a, s, i, d, rfl⟩ : ∃ (a : Fin 1) (s i : Fin 2) (d : Fin 128), y = ix4 a s i d := ⟨y 0, y 1, y 2, y 3, eq_ix4 y⟩
  obtain rfl : a = 0 := Subsingleton.elim _ _
  blk_simp
  rw [after1_9, outs V c t ht]
  have he : (win1_9.blk t).view.emb (ix4 0 s i d) = ix4 (⟨t.val / 10, by omega⟩ : Fin 8) s i d := by blk_ext [idx9]
  rw [he]
  simp only [partAt, part_at, blk_whole, G, total]
  refine Fin.sum_mul_add_congr fun k n hl => ?_
  have h2 (e : Fin 128) : iblk1 V c 2 ⟨10 * (t.val / 10) + k.val, Pipeline.run_point_lt_of_flush t ht k⟩ (ix3 0 s e) =
      V c main_v7 (ix3 ⟨t.val / 10, by omega⟩ s e) := by
    blk_simp [iblk1]; congr 1; blk_ext [idx2]
  have h0 (e : Fin 128) : side (iblk1 V c 0 ⟨10 * (t.val / 10) + k.val, Pipeline.run_point_lt_of_flush t ht k⟩)
      (iblk1 V c 1 ⟨10 * (t.val / 10) + k.val, Pipeline.run_point_lt_of_flush t ht k⟩) s (ix3 0 n e) =
      side (V c main_arg0) (V c main_arg1) s (ix3 ⟨t.val / 10, by omega⟩ ⟨k.val * 10000 + n.val, hl⟩ e) := by
    refine side_congr rfl ?_ ?_
    · blk_simp [iblk1]; congr 1; blk_ext [idx0]
    · blk_simp [iblk1]; congr 1; blk_ext [idx1]
  simp only [h2, h0]
  rfl

end Cert.Pool1
-- ==== Proof.Pool2.lean ====
/- The kernel's third call: for each pair, side and head, the sum of the nodes weighted twice. -/
module

public import proofs.«01_k».proof.Proof.Pool1

@[expose] public section

set_option maxRecDepth 16384

noncomputable section

namespace Cert.Pool2

open Cert.KernelIdeal Cert.KernelIdeal.Gen Cert.Att Cert.Pool Idealize.ShloMosaic Idealize.ShloMosaic.TcCoe
open Cert.Pool1 (fst snd fst_eq snd_eq)

/-- A head's row of one side's first sums. -/
def pick00 (o : FVec Ideal S2x2x128 .f32) : FVec Ideal S1x128 .f32 :=
  shapeCast S1x128 (extractStridedSlice S1x1x128 ![0, 0, 0] o slices_S2x2x128_o0_0_0_S1x1x128) shapeCasts_S1x1x128_S1x128
@[inherit_doc pick00]
def pick01 (o : FVec Ideal S2x2x128 .f32) : FVec Ideal S1x128 .f32 :=
  shapeCast S1x128 (extractStridedSlice S1x1x128 ![0, 1, 0] o slices_S2x2x128_o0_1_0_S1x1x128) shapeCasts_S1x1x128_S1x128
@[inherit_doc pick00]
def pick10 (o : FVec Ideal S2x2x128 .f32) : FVec Ideal S1x128 .f32 :=
  shapeCast S1x128 (extractStridedSlice S1x1x128 ![1, 0, 0] o slices_S2x2x128_o1_0_0_S1x1x128) shapeCasts_S1x1x128_S1x128
@[inherit_doc pick00]
def pick11 (o : FVec Ideal S2x2x128 .f32) : FVec Ideal S1x128 .f32 :=
  shapeCast S1x128 (extractStridedSlice S1x1x128 ![1, 1, 0] o slices_S2x2x128_o1_1_0_S1x1x128) shapeCasts_S1x1x128_S1x128

/-- At an index: the entry of that row. -/
theorem pick00_at (o : FVec Ideal S2x2x128 .f32) (d : Fin 128) : pick00 o (ix2 0 d) = o (ix3 0 0 d) := by
  unfold pick00; pointwise
/-- At an index: the entry of that row. -/
theorem pick01_at (o : FVec Ideal S2x2x128 .f32) (d : Fin 128) : pick01 o (ix2 0 d) = o (ix3 0 1 d) := by
  unfold pick01; pointwise
/-- At an index: the entry of that row. -/
theorem pick10_at (o : FVec Ideal S2x2x128 .f32) (d : Fin 128) : pick10 o (ix2 0 d) = o (ix3 1 0 d) := by
  unfold pick10; pointwise
/-- At an index: the entry of that row. -/
theorem pick11_at (o : FVec Ideal S2x2x128 .f32) (d : Fin 128) : pick11 o (ix2 0 d) = o (ix3 1 1 d) := by
  unfold pick11; pointwise

/-- Both heads' second weighted sums of one side's block, from its scaled sum and each head's scaled first weighted sum. -/
def twice (W Wt : FVec Ideal S2x128x128 .f32) (Va Vb : FVec Ideal S2x128 .f32) (b u : FVec Ideal S2 .f32)
    (m m0 m1 : FVec Ideal S1x128 .f32) (x : FVec Ideal S10000x128 .f32) : FVec Ideal S2x128 .f32 :=
  let a := attK W Wt Va Vb m (b (ix1 0)) (b (ix1 1)) (u (ix1 0)) (u (ix1 1)) x
  pairK (againK (mat0 W) (mat0 Wt) (row0 Va) (row0 Vb) m0 (b (ix1 0)) (u (ix1 0)) (weigh0 a x))
    (againK (mat1 W) (mat1 Wt) (row1 Va) (row1 Vb) m1 (b (ix1 1)) (u (ix1 1)) (weigh1 a x)) (weigh0 a x) (weigh1 a x)

/-- At an index: the sum of the nodes weighted twice. -/
theorem twice_at (W Wt : FVec Ideal S2x128x128 .f32) (Va Vb : FVec Ideal S2x128 .f32) (b u : FVec Ideal S2 .f32)
    (m m0 m1 : FVec Ideal S1x128 .f32) (x : FVec Ideal S10000x128 .f32) (i : Fin 2) (d : Fin 128) :
    twice W Wt Va Vb b u m m0 m1 x (ix2 i d) = ∑ n, weigh (headK W Wt Va Vb b u i) (fun d => side m0 m1 i (ix2 0 d))
      (weigh (headK W Wt Va Vb b u i) (fun d => m (ix2 0 d)) (fun d => x (ix2 n d))) d := by
  unfold twice
  rw [pairK_at]
  fin_cases i <;> simp only [side, Fin.zero_eta, Fin.mk_one, if_true, one_ne_zero, if_false, againK_at0, againK_at1,
    weigh0_at, weigh1_at, attK_at] <;> rfl

/-- The second weighted sums of one block, as the body computes them. -/
def part (x0 x1 : FVec Ideal S1x10000x128 .f32) (x2 : FVec Ideal S1x2x128 .f32) (x3 : FVec Ideal S1x2x2x128 .f32)
    (W Wt : FVec Ideal S2x128x128 .f32) (Va Vb : FVec Ideal S2x128 .f32) (b u : FVec Ideal S2 .f32) :
    FVec Ideal S1x2x2x128 .f32 :=
  let s := shapeCast S2x128 x2 shapeCasts_S1x2x128_S2x128
  let o := shapeCast S2x2x128 x3 shapeCasts_S1x2x2x128_S2x2x128
  blockK (twice W Wt Va Vb b u (meanK (row0 s)) (meanK (pick00 o)) (meanK (pick01 o)) (nodes x0))
    (twice W Wt Va Vb b u (meanK (row1 s)) (meanK (pick10 o)) (meanK (pick11 o)) (nodes x1))

/-- At an index: a head's second weighted sum of one side's nodes. -/
theorem part_at (x0 x1 : FVec Ideal S1x10000x128 .f32) (x2 : FVec Ideal S1x2x128 .f32) (x3 : FVec Ideal S1x2x2x128 .f32)
    (W Wt : FVec Ideal S2x128x128 .f32) (Va Vb : FVec Ideal S2x128 .f32) (b u : FVec Ideal S2 .f32) (s i : Fin 2) (d : Fin 128) :
    part x0 x1 x2 x3 W Wt Va Vb b u (ix4 0 s i d) = ∑ n : Fin 10000,
      weigh (headK W Wt Va Vb b u i) (scaled fun d => x3 (ix4 0 s i d))
        (weigh (headK W Wt Va Vb b u i) (scaled fun d => x2 (ix3 0 s d)) (fun d => side x0 x1 s (ix3 0 n d))) d := by
  have hs : ∀ (s : Fin 2) (d : Fin 128), shapeCast S2x128 x2 shapeCasts_S1x2x128_S2x128 (ix2 s d) = x2 (ix3 0 s d) := by
    intro s d; pointwise
  have ho : ∀ (s i : Fin 2) (d : Fin 128), shapeCast S2x2x128 x3 shapeCasts_S1x2x2x128_S2x2x128 (ix3 s i d) = x3 (ix4 0 s i d) := by
    intro s i d; pointwise
  unfold part
  rw [blockK_at]
  fin_cases s <;> simp only [side, Fin.zero_eta, Fin.mk_one, if_true, one_ne_zero, if_false, twice_at] <;>
    fin_cases i <;> simp only [Fin.zero_eta, Fin.mk_one, if_true, one_ne_zero, if_false, meanK_at, row0_at, row1_at,
      pick00_at, pick01_at, pick10_at, pick11_at, hs, ho, nodes_at]

/-- What the body stores: the running sums plus the block's second weighted sums. -/
theorem pay (x0 x1 : FVec Ideal S1x10000x128 .f32) (x2 : FVec Ideal S1x2x128 .f32) (x3 : FVec Ideal S1x2x2x128 .f32)
    (x4 x5 : FVec Ideal S2x128x128 .f32) (x6 x7 : FVec Ideal S2x128 .f32) (x8 x9 : FVec Ideal S2 .f32)
    (acc : FVec Ideal S1x2x2x128 .f32) (h : 0 < S1.numel) :
    let A14 := k2_pay14 x4 (k2_pay3 x5) (k2_pay4 x6) (k2_pay5 x7) (k2_pay8 x0) (k2_pay9 x2) (k2_pay11 x4 x5 x2)
      (k2_pay12 x4 x7 x2) (k2_pay13 (fst x8 h)) (snd x8 h) (fst x9 h) (snd x9 h)
    let A15 := k2_pay15 x4 (k2_pay3 x5) (k2_pay4 x6) (k2_pay5 x7) (k2_pay8 x0) (k2_pay9 x2) (k2_pay11 x4 x5 x2)
      (k2_pay12 x4 x7 x2) (k2_pay13 (fst x8 h)) (snd x8 h) (fst x9 h) (snd x9 h)
    let P30 := k2_pay30 x4 (k2_pay5 x7) (k2_pay24 (k2_pay6 x2)) (snd x8 h)
    let P32 := k2_pay32 x4 (k2_pay3 x5) (k2_pay4 x6) (k2_pay23 x1) (k2_pay24 (k2_pay6 x2)) (k2_pay25 x4)
      (k2_pay26 (k2_pay3 x5)) (k2_pay27 (k2_pay5 x7)) (fst x8 h) (fst x9 h)
    let P33 := k2_pay33 x4 (k2_pay3 x5) (k2_pay4 x6) (k2_pay23 x1) (k2_pay24 (k2_pay6 x2)) (k2_pay25 x4)
      (k2_pay26 (k2_pay3 x5))
    k2_pay2 (k2_pay37 x4 (k2_pay3 x5) (k2_pay4 x6) (k2_pay5 x7) (k2_pay7 x3)
      (k2_pay22 (k2_pay4 x6) (k2_pay5 x7) (k2_pay16 (k2_pay8 x0) A15)
        (k2_pay17 x4 (k2_pay3 x5) (k2_pay4 x6) (k2_pay5 x7) (k2_pay7 x3) (k2_pay8 x0) A15 (fst x8 h) (fst x9 h))
        (k2_pay18 (k2_pay8 x0) A14) (k2_pay19 (k2_pay7 x3)) (k2_pay20 x4) (k2_pay21 (k2_pay3 x5)) (snd x8 h) (snd x9 h))
      (k2_pay23 x1) (k2_pay34 P30 P32 P33 (snd x9 h)) (k2_pay35 (k2_pay23 x1) P30 P32 P33 (snd x9 h))
      (k2_pay36 x4 (k2_pay3 x5) (k2_pay4 x6) (k2_pay5 x7) (k2_pay7 x3) (k2_pay23 x1) P30 P32 P33 (snd x9 h) (fst x8 h))
      (fst x9 h) (snd x8 h) (snd x9 h)) acc
    = addf acc (part x0 x1 x2 x3 x4 x5 x6 x7 x8 x9) := by
  dsimp only
  rw [fst_eq x8, fst_eq x9, snd_eq x8, snd_eq x9]
  have h3 : k2_pay3 x5 = x5 := shapeCast_self _ _
  have h4 : k2_pay4 x6 = x6 := shapeCast_self _ _
  have h5 : k2_pay5 x7 = x7 := shapeCast_self _ _
  unfold k2_pay2 k2_pay11 k2_pay12
  rw [shapeCast_self, h3, h4, h5]
  rfl

/-- The block the first point stores before adding: zeros. -/
theorem pay_zero (j : S1x2x2x128.Idx) : k2_pay1 (F := Ideal) j = 0 := by
  unfold k2_pay1
  pointwise

variable (V : (c : Dev nD) → (b : Ref sig .tc) → Buf (Elt Ideal) ((c : Thread nD τ).loc b))

/-- The second weighted sums of the block at a point. -/
def partAt (c : Dev nD) (t : Fin cfg2.N) : S1x2x2x128.Idx → EReal :=
  part (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t)

/-- After the last block of a pair, the output block holds the second weighted sums over the pair's ten blocks. -/
theorem outs (c : Dev nD) (t : Fin cfg2.N) (ht : t.val % 10 = 9) (j : S1x2x2x128.Idx) :
    outsAt2 V c t.val t.isLt j = ∑ k : Fin 10, partAt V c ⟨10 * (t.val / 10) + k.val, Pipeline.run_point_lt_of_flush t ht k⟩ j := by
  rw [Pipeline.eq_sum_fin_of_reset_step_apply_of_flush (fun n h => outsAt2 V c n h) 10 (fun _ => (0 : EReal)) (partAt V c)
    (fun t h j => by
      rw [outsAt2_A V c t h]; frame_out
      refine (congrFun (pay (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) _ _) j).trans ?_
      exact congrArg (· + partAt V c t j) (pay_zero j))
    (fun t h j => by
      rw [outsAt2_B V c t h]; frame_out
      exact congrFun (pay (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) _ _) j) t ht j]
  simp only [zero_add]

/-! ## The windows' blocks and the result -/

/-- The block index of window 0 at a point. -/
theorem idx0 : ∀ t : Fin cfg2.N, win2_0.index t = ![t.val / 10, t.val % 10, 0] :=
  (by decide +kernel : ∀ t : Fin grid2.N, _)
/-- The block index of window 1 at a point. -/
theorem idx1 : ∀ t : Fin cfg2.N, win2_1.index t = ![t.val / 10, t.val % 10, 0] :=
  (by decide +kernel : ∀ t : Fin grid2.N, _)
/-- The block index of window 2 at a point. -/
theorem idx2 : ∀ t : Fin cfg2.N, win2_2.index t = ![t.val / 10, 0, 0] :=
  (by decide +kernel : ∀ t : Fin grid2.N, _)
/-- The block index of window 3 at a point. -/
theorem idx3 : ∀ t : Fin cfg2.N, win2_3.index t = ![t.val / 10, 0, 0, 0] :=
  (by decide +kernel : ∀ t : Fin grid2.N, _)
/-- The block index of window 10 at a point. -/
theorem idx10 : ∀ t : Fin cfg2.N, win2_10.index t = ![t.val / 10, 0, 0, 0] :=
  (by decide +kernel : ∀ t : Fin grid2.N, _)
/-- The windows whose block is their whole array stay at the first block. -/
theorem idx_whole : ∀ t : Fin cfg2.N, win2_4.index t = ![0, 0, 0] ∧ win2_5.index t = ![0, 0, 0] ∧ win2_6.index t = ![0, 0] ∧
    win2_7.index t = ![0, 0] ∧ win2_8.index t = ![0] ∧ win2_9.index t = ![0] :=
  (by decide +kernel : ∀ t : Fin grid2.N, _)
/-- The block of such a window is its array. -/
theorem blk_whole (c : Dev nD) (t : Fin cfg2.N) : iblk2 V c 4 t = V c main_arg2 ∧ iblk2 V c 5 t = V c main_v4 ∧ iblk2 V c 6 t = V c main_v1 ∧
    iblk2 V c 7 t = V c main_v3 ∧ iblk2 V c 8 t = V c main_v6 ∧ iblk2 V c 9 t = V c main_v5 := by
  obtain ⟨i4, i5, i6, i7, i8, i9⟩ := idx_whole t
  refine ⟨?_, ?_, ?_, ?_, ?_, ?_⟩ <;> (funext y; blk_simp [iblk2]; congr 1; blk_ext [i4, i5, i6, i7, i8, i9])

/-- The second weighted sums' array: of each pair, side and head, the sum of the nodes weighted twice. -/
def G (x y : S8x100000x128.Idx → EReal) (s : S8x2x128.Idx → EReal) (o : S8x2x2x128.Idx → EReal) (H : Fin 2 → Head) :
    S8x2x2x128.Idx → EReal := fun i =>
  total (fun n => weigh (H (i 2)) (scaled fun d => o (ix4 (i 0) (i 1) (i 2) d))
    (weigh (H (i 2)) (scaled fun d => s (ix3 (i 0) (i 1) d)) (fun d => side x y (i 1) (ix3 (i 0) n d)))) (i 3)

/-- The third call's result. -/
theorem final (c : Dev nD) : (dat2 V c).arrAt 10 cfg2.N = G (V c main_arg0) (V c main_arg1) (V c main_v7) (V c main_v8)
    (headK (V c main_arg2) (V c main_v4) (V c main_v1) (V c main_v3) (V c main_v6) (V c main_v5)) := by
  refine (dat2 V c).arrAt_eq_of_covers 10 _ (by decide +kernel) fun t hf y => ?_
  have ht : t.val % 10 = 9 := (flush2_10 t).mp hf
  have hN : t.val < 80 := lt_of_lt_of_eq t.isLt N_2
  obtain ⟨a, s, i, d, rfl⟩ : ∃ (a : Fin 1) (s i : Fin 2) (d : Fin 128), y = ix4 a s i d := ⟨y 0, y 1, y 2, y 3, eq_ix4 y⟩
  obtain rfl : a = 0 := Subsingleton.elim _ _
  blk_simp
  rw [after2_10, outs V c t ht]
  have he : (win2_10.blk t).view.emb (ix4 0 s i d) = ix4 (⟨t.val / 10, by omega⟩ : Fin 8) s i d := by blk_ext [idx10]
  rw [he]
  simp only [partAt, part_at, blk_whole, G, total]
  refine Fin.sum_mul_add_congr fun k n hl => ?_
  have h3 (e : Fin 128) : iblk2 V c 3 ⟨10 * (t.val / 10) + k.val, Pipeline.run_point_lt_of_flush t ht k⟩ (ix4 0 s i e) =
      V c main_v8 (ix4 ⟨t.val / 10, by omega⟩ s i e) := by
    blk_simp [iblk2]; congr 1; blk_ext [idx3]
  have h2 (e : Fin 128) : iblk2 V c 2 ⟨10 * (t.val / 10) + k.val, Pipeline.run_point_lt_of_flush t ht k⟩ (ix3 0 s e) =
      V c main_v7 (ix3 ⟨t.val / 10, by omega⟩ s e) := by
    blk_simp [iblk2]; congr 1; blk_ext [idx2]
  have h0 (e : Fin 128) : side (iblk2 V c 0 ⟨10 * (t.val / 10) + k.val, Pipeline.run_point_lt_of_flush t ht k⟩)
      (iblk2 V c 1 ⟨10 * (t.val / 10) + k.val, Pipeline.run_point_lt_of_flush t ht k⟩) s (ix3 0 n e) =
      side (V c main_arg0) (V c main_arg1) s (ix3 ⟨t.val / 10, by omega⟩ ⟨k.val * 10000 + n.val, hl⟩ e) := by
    refine side_congr rfl ?_ ?_
    · blk_simp [iblk2]; congr 1; blk_ext [idx0]
    · blk_simp [iblk2]; congr 1; blk_ext [idx1]
  simp only [h3, h2, h0]
  rfl

end Cert.Pool2
-- ==== Proof.Head.lean ====
/- The kernel's fourth call: the tensor network's slices, their normalization and the projections. -/
module

public import proofs.«01_k».proof.Proof.Pool2

@[expose] public section

set_option maxRecDepth 16384

noncomputable section

namespace Cert.Head

open Cert.KernelIdeal Cert.KernelIdeal.Gen Cert.Att Idealize.ShloMosaic Idealize.ShloMosaic.TcCoe

/-- One slice's bilinear form of the pairs' embeddings. -/
def formK (g1 g2 : FVec Ideal S8x256 .f32) (w : FVec Ideal S1x256x256 .f32) : FVec Ideal S8x1 .f32 :=
  shapeCast S8x1 (multiReduction .add [1] S8 (mulf (matmul dot_S8x256_S256x256_S8x256_1_0_0_1_n_n none g1
    (shapeCast S256x256 w shapeCasts_S1x256x256_S256x256) (constant S8x256 .f32 0x00000000#32)) g2) 0x00000000#32
    reduces_S8x256_S8 (.inl rfl) rfl) shapeCasts_S8_S8x1

/-- Sixteen columns side by side. -/
def catK (s : Fin 16 → FVec Ideal S8x1 .f32) : FVec Ideal S8x16 .f32 :=
  concatenate S8x16 1 [⟨S8x1, s 0⟩, ⟨S8x1, s 1⟩, ⟨S8x1, s 2⟩, ⟨S8x1, s 3⟩, ⟨S8x1, s 4⟩, ⟨S8x1, s 5⟩, ⟨S8x1, s 6⟩, ⟨S8x1, s 7⟩,
    ⟨S8x1, s 8⟩, ⟨S8x1, s 9⟩, ⟨S8x1, s 10⟩, ⟨S8x1, s 11⟩, ⟨S8x1, s 12⟩, ⟨S8x1, s 13⟩, ⟨S8x1, s 14⟩, ⟨S8x1, s 15⟩]
    concatenates_S8x1_S8x1_S8x1_S8x1_S8x1_S8x1_S8x1_S8x1_S8x1_S8x1_S8x1_S8x1_S8x1_S8x1_S8x1_S8x1_S8x16_d1

/-- The slices from the embeddings, the linear map's two halves, the bilinear forms and the bias. -/
def slicesK (g1 g2 : FVec Ideal S8x256 .f32) (v : FVec Ideal S16x512 .f32) (z : FVec Ideal S8x16 .f32) (b : FVec Ideal S1x16 .f32) :
    FVec Ideal S8x16 .f32 :=
  addf (addf (addf
    (matmul dot_S8x256_S16x256_S8x16_1_1_0_0_n_n none g1 (extractStridedSlice S16x256 ![0, 0] v slices_S16x512_o0_0_S16x256) (constant S8x16 .f32 0x00000000#32))
    (matmul dot_S8x256_S16x256_S8x16_1_1_0_0_n_n none g2 (extractStridedSlice S16x256 ![0, 256] v slices_S16x512_o0_256_S16x256) (constant S8x16 .f32 0x00000000#32)))
    z) (broadcastTo S8x16 b broadcasts_S1x16_S8x16)

/-- The slices over their L1 norm, negative parts cut. -/
def normK (s : FVec Ideal S8x16 .f32) : FVec Ideal S8x16 .f32 :=
  maximumf (divf s (broadcastTo S8x16 (maximumf (shapeCast S8x1 (multiReduction .add [1] S8 (absf s) 0x00000000#32
    reduces_S8x16_S8 (.inl rfl) rfl) shapeCasts_S8_S8x1) (broadcast S8x1 (Scalar.ofBits .f32 0x2B8CBCCC#32))) broadcasts_S8x1_S8x16))
    (broadcast S8x16 (Scalar.ofBits .f32 0x00000000#32))

/-- The four projections. -/
def projK (p0 : FVec Ideal S8x16 .f32) (p1 : FVec Ideal S4x8 .f32) (p2 : FVec Ideal S2x4 .f32) (p3 : FVec Ideal S1x2 .f32)
    (y : FVec Ideal S8x16 .f32) : FVec Ideal S8x1 .f32 :=
  matmul dot_S8x2_S1x2_S8x1_1_1_0_0_n_n none
    (matmul dot_S8x4_S2x4_S8x2_1_1_0_0_n_n none
      (matmul dot_S8x8_S4x8_S8x4_1_1_0_0_n_n none
        (matmul dot_S8x16_S8x16_S8x8_1_1_0_0_n_n none y p0 (constant S8x8 .f32 0x00000000#32)) p1 (constant S8x4 .f32 0x00000000#32))
      p2 (constant S8x2 .f32 0x00000000#32)) p3 (constant S8x1 .f32 0x00000000#32)

/-- At an index: the bilinear form of a pair. -/
theorem formK_at (g1 g2 : FVec Ideal S8x256 .f32) (w : FVec Ideal S1x256x256 .f32) (i : Fin 8) :
    formK g1 g2 w (ix2 i 0) = ∑ e, (∑ d, g1 (ix2 i d) * w (ix3 0 d e)) * g2 (ix2 i e) := by
  unfold formK; pointwise [dot_S8x256_S256x256_S8x256_1_0_0_1_n_n]

/-- At an index: the column of that slice. -/
theorem catK_at (s : Fin 16 → FVec Ideal S8x1 .f32) (i : Fin 8) (f : Fin 16) : catK s (ix2 i f) = s f (ix2 i 0) := by
  unfold catK; fin_cases f <;> pointwise

/-- At an index: the four terms of a slice. -/
theorem slicesK_at (g1 g2 : FVec Ideal S8x256 .f32) (v : FVec Ideal S16x512 .f32) (z : FVec Ideal S8x16 .f32) (b : FVec Ideal S1x16 .f32)
    (i : Fin 8) (f : Fin 16) : slicesK g1 g2 v z b (ix2 i f) =
      (((∑ k : Fin 256, g1 (ix2 i k) * v (ix2 f ⟨k.val, by omega⟩)) + ∑ k : Fin 256, g2 (ix2 i k) * v (ix2 f ⟨256 + k.val, by omega⟩))
        + z (ix2 i f)) + b (ix2 0 f) := by
  unfold slicesK; pointwise [dot_S8x256_S16x256_S8x16_1_1_0_0_n_n]

/-- At an index: the normalized slice. -/
theorem normK_at (s : FVec Ideal S8x16 .f32) (i : Fin 8) (f : Fin 16) : normK s (ix2 i f) = normed (fun f => s (ix2 i f)) f := by
  unfold normK normed eps; pointwise; rfl

/-- At an index: the projections of the pair's slices. -/
theorem projK_at (p0 : FVec Ideal S8x16 .f32) (p1 : FVec Ideal S4x8 .f32) (p2 : FVec Ideal S2x4 .f32) (p3 : FVec Ideal S1x2 .f32)
    (y : FVec Ideal S8x16 .f32) (i : Fin 8) : projK p0 p1 p2 p3 y (ix2 i 0) =
      projs (fun a b => p0 (ix2 a b)) (fun a b => p1 (ix2 a b)) (fun a b => p2 (ix2 a b)) (fun a b => p3 (ix2 a b)) fun f => y (ix2 i f) := by
  unfold projK projs proj
  pointwise [dot_S8x2_S1x2_S8x1_1_1_0_0_n_n, dot_S8x4_S2x4_S8x2_1_1_0_0_n_n, dot_S8x8_S4x8_S8x4_1_1_0_0_n_n, dot_S8x16_S8x16_S8x8_1_1_0_0_n_n]

/-! ## The call's result -/

/-- One slice's matrix, as loaded. -/
def page (w : FVec Ideal S16x256x256 .f32) (f : Fin 16) : FVec Ideal S1x256x256 .f32 :=
  View.ld (Val := Elt Ideal) (e' := .f32) w (Rect.unit (s := S16x256x256) ![f.val, 0, 0] S1x256x256.size (by
    intro a; fin_cases a <;> simp <;> omega))

/-- At an index: the entry of that slice. -/
theorem page_at (w : FVec Ideal S16x256x256 .f32) (f : Fin 16) (d e : Fin 256) : page w f (ix3 0 d e) = w (ix3 f d e) := by
  refine congrArg w (funext fun a => Fin.ext ?_)
  fin_cases a <;> simp [Rect.unit]

/-- The result of the call from the arrays it reads. -/
def G (g1 g2 : S8x256.Idx → EReal) (v : S16x512.Idx → EReal) (w : S16x256x256.Idx → EReal) (b : S1x16.Idx → EReal)
    (p0 : S8x16.Idx → EReal) (p1 : S4x8.Idx → EReal) (p2 : S2x4.Idx → EReal) (p3 : S1x2.Idx → EReal) : S8x1.Idx → EReal := fun j =>
  projs (fun a b => p0 (ix2 a b)) (fun a b => p1 (ix2 a b)) (fun a b => p2 (ix2 a b)) (fun a b => p3 (ix2 a b))
    (normed (slices (fun f k => v (ix2 f k)) (fun f d e => w (ix3 f d e)) (fun f => b (ix2 0 f))
      (fun k => g1 (ix2 (j 0) k)) (fun k => g2 (ix2 (j 0) k))))

/-- What the body computes, at an index. -/
theorem body_at (g1 g2 : FVec Ideal S8x256 .f32) (v : FVec Ideal S16x512 .f32) (w : FVec Ideal S16x256x256 .f32) (b : FVec Ideal S1x16 .f32)
    (p0 : FVec Ideal S8x16 .f32) (p1 : FVec Ideal S4x8 .f32) (p2 : FVec Ideal S2x4 .f32) (p3 : FVec Ideal S1x2 .f32) (j : S8x1.Idx) :
    projK p0 p1 p2 p3 (normK (slicesK g1 g2 v (catK fun f => formK g1 g2 (page w f)) b)) j = G g1 g2 v w b p0 p1 p2 p3 j := by
  obtain ⟨i, a, rfl⟩ : ∃ (i : Fin 8) (a : Fin 1), j = ix2 i a := ⟨j 0, j 1, eq_ix2 j⟩
  obtain rfl : a = 0 := Subsingleton.elim _ _
  rw [projK_at]
  simp only [normK_at, slicesK_at, catK_at, formK_at, page_at]
  rfl

variable (V : (c : Dev nD) → (b : Ref sig .tc) → Buf (Elt Ideal) ((c : Thread nD τ).loc b))

set_option maxHeartbeats 1000000 in
/-- What the body leaves in its output block. -/
theorem out (g1 g2 : FVec Ideal S8x256 .f32) (v : FVec Ideal S16x512 .f32) (w : FVec Ideal S16x256x256 .f32) (b : FVec Ideal S1x16 .f32)
    (p0 : FVec Ideal S8x16 .f32) (p1 : FVec Ideal S4x8 .f32) (p2 : FVec Ideal S2x4 .f32) (p3 : FVec Ideal S1x2 .f32) (j : S8x1.Idx) :
    out3_9 (F := Ideal) g1 g2 v w b p0 p1 p2 p3 j = G g1 g2 v w b p0 p1 p2 p3 j := by
  rw [← body_at]
  unfold_out out3_9
  frame_out
  have h1 : k3_pay1 g1 = g1 := shapeCast_self _ _
  have h2 : k3_pay2 g2 = g2 := shapeCast_self _ _
  unfold k3_pay23 k3_pay5 k3_pay6 k3_pay7 k3_pay8
  simp only [h1, h2]
  rw [shapeCast_self]
  rfl

/-- The windows whose block is their whole array stay at the first block. -/
theorem idx_whole : ∀ t : Fin cfg3.N, win3_0.index t = ![0, 0] ∧ win3_1.index t = ![0, 0] ∧ win3_2.index t = ![0, 0] ∧
    win3_3.index t = ![0, 0, 0] ∧ win3_4.index t = ![0, 0] ∧ win3_5.index t = ![0, 0] ∧
    win3_6.index t = ![0, 0] ∧ win3_7.index t = ![0, 0] ∧ win3_8.index t = ![0, 0] :=
  (by decide +kernel : ∀ t : Fin grid3.N, _)
set_option maxHeartbeats 1000000 in
/-- The block of such a window is its array. -/
theorem blk_whole (c : Dev nD) (t : Fin cfg3.N) : iblk3 V c 0 t = V c main_v12 ∧ iblk3 V c 1 t = V c main_v14 ∧ iblk3 V c 2 t = V c main_arg7 ∧
    iblk3 V c 3 t = V c main_arg8 ∧ iblk3 V c 4 t = V c main_v15 ∧ iblk3 V c 5 t = V c main_arg10 ∧
    iblk3 V c 6 t = V c main_arg11 ∧ iblk3 V c 7 t = V c main_arg12 ∧ iblk3 V c 8 t = V c main_arg13 := by
  obtain ⟨i0, i1, i2, i3, i4, i5, i6, i7, i8⟩ := idx_whole t
  refine ⟨?_, ?_, ?_, ?_, ?_, ?_, ?_, ?_, ?_⟩ <;> (funext y; blk_simp [iblk3]; congr 1; blk_ext [i0, i1, i2, i3, i4, i5, i6, i7, i8])

/-- The fourth call's result. -/
theorem final (c : Dev nD) : (dat3 V c).arrAt 9 cfg3.N = G (V c main_v12) (V c main_v14) (V c main_arg7) (V c main_arg8)
    (V c main_v15) (V c main_arg10) (V c main_arg11) (V c main_arg12) (V c main_arg13) := by
  refine (dat3 V c).arrAt_eq_of_after_last 9 ⟨0, by decide +kernel⟩ (by decide +kernel) _ fun j => ?_
  rw [after3_9]
  simp only [blk_whole]
  exact out _ _ _ _ _ _ _ _ _ _

end Cert.Head
-- ==== Proof.Values.lean ====
/- The kernel's result, from the arguments: the calls' results one after the other, with the host operations between them. -/
module

public import proofs.«01_k».proof.Proof.Head

@[expose] public section

set_option maxRecDepth 16384

noncomputable section

namespace Cert.Values

open Cert.KernelIdeal Cert.KernelIdeal.Gen Cert.Att Cert.Pool Idealize.ShloMosaic Idealize.ShloMosaic.TcCoe

/-! ## The host operations -/

section Host

variable (V : Valuation τ sig (Elt Ideal))

/-- The first half of the attention's linear map, by head. -/
theorem v1_at (i : Fin 2) (d : Fin 128) : (StableHlo.after hostOps0 V main_v1 : S2x128.Idx → EReal) (ix2 i d) = V main_arg3 (ix3 i 0 (⟨d.val, by omega⟩ : Fin 256)) := by
  after_results
  pointwise
/-- The second half of the attention's linear map, by head. -/
theorem v3_at (i : Fin 2) (d : Fin 128) : (StableHlo.after hostOps0 V main_v3 : S2x128.Idx → EReal) (ix2 i d) = V main_arg3 (ix3 i 0 (⟨128 + d.val, by omega⟩ : Fin 256)) := by
  after_results
  pointwise
/-- The bilinear form's matrix, by head. -/
theorem v4_at (i : Fin 2) (d e : Fin 128) : (StableHlo.after hostOps0 V main_v4 : S2x128x128.Idx → EReal) (ix3 i d e) = V main_arg4 (ix4 i 0 d e) := by
  after_results
  pointwise
/-- The head's weight. -/
theorem v5_at (i : Fin 2) : (StableHlo.after hostOps0 V main_v5 : S2.Idx → EReal) (ix1 i) = V main_arg5 (ix3 i 0 0) := by
  after_results
  pointwise
/-- The head's bias. -/
theorem v6_at (i : Fin 2) : (StableHlo.after hostOps0 V main_v6 : S2.Idx → EReal) (ix1 i) = V main_arg6 (ix2 i 0) := by
  after_results
  pointwise

/-- The first graphs' embeddings, head after head. -/
theorem v12_at (i : Fin 8) (k : Fin 256) : (StableHlo.after hostOps3 V main_v12 : S8x256.Idx → EReal) (ix2 i k) = V main_v9 (ix4 i 0 (⟨k.val / 128, by omega⟩ : Fin 2) (⟨k.val % 128, by omega⟩ : Fin 128)) := by
  after_results
  pointwise
/-- The second graphs' embeddings, head after head. -/
theorem v14_at (i : Fin 8) (k : Fin 256) : (StableHlo.after hostOps3 V main_v14 : S8x256.Idx → EReal) (ix2 i k) = V main_v9 (ix4 i 1 (⟨k.val / 128, by omega⟩ : Fin 2) (⟨k.val % 128, by omega⟩ : Fin 128)) := by
  after_results
  pointwise
/-- The slices' bias. -/
theorem v15_at (f : Fin 16) : (StableHlo.after hostOps3 V main_v15 : S1x16.Idx → EReal) (ix2 0 f) = V main_arg9 (ix1 f) := by
  after_results
  pointwise

end Host

/-- Two embeddings side by side, by the head and the feature of a position. -/
theorem pack_eq (e : Fin 2 → Feat) (k : Fin 256) : pack e k = e ⟨k.val / 128, by omega⟩ ⟨k.val % 128, by omega⟩ := by
  unfold pack
  split_ifs with h
  · have h0 : (⟨k.val / 128, by omega⟩ : Fin 2) = 0 := Fin.ext (by simp; omega)
    have h1 : (⟨k.val % 128, by omega⟩ : Fin 128) = ⟨k.val, h⟩ := Fin.ext (by simp; omega)
    rw [h0, h1]
  · have h0 : (⟨k.val / 128, by omega⟩ : Fin 2) = 1 := Fin.ext (by simp; omega)
    have h1 : (⟨k.val % 128, by omega⟩ : Fin 128) = ⟨k.val - 128, by omega⟩ := Fin.ext (by simp; omega)
    rw [h0, h1]

/-- The three calls over the nodes make up a head's embedding. -/
theorem calls_eq (x y : S8x100000x128.Idx → EReal) (H : Fin 2 → Head) (i : Fin 8) (s h : Fin 2) (d : Fin 128) :
    Pool2.G x y (Sums.G x y) (Pool1.G x y (Sums.G x y) H) H (ix4 i s h d) = emb (H h) (fun n d => side x y s (ix3 i n d)) d := rfl

/-! ## The calls' arrays -/

variable (m : (ℓ : Loc nD τ sig) → Buf (Elt Ideal) ℓ) (ρ : Dev nD → PrngReg) (c : Dev nD)

/-- An argument's array. -/
abbrev arg (b : Ref sig .tc) : Buf (Elt Ideal) ((c : Thread nD τ).loc b) := m ((c : Thread nD τ).loc b)

/-- A head's parameters, from the arguments. -/
def headM (x2 : S2x128x128.Idx → EReal) (x3 : S2x1x256.Idx → EReal) (x4 : S2x1x128x128.Idx → EReal) (x5 : S2x1x1.Idx → EReal)
    (x6 : S2x1.Idx → EReal) (i : Fin 2) : Head where
  W := fun d e => x2 (ix3 i d e)
  va := fun d => x3 (ix3 i 0 ⟨d.val, by omega⟩)
  vb := fun d => x3 (ix3 i 0 ⟨128 + d.val, by omega⟩)
  Wt := fun d e => x4 (ix4 i 0 d e)
  u := x5 (ix3 i 0 0)
  b := x6 (ix2 i 0)

/-- The heads' parameters as the calls read them. -/
theorem heads_eq : headK (V1 m ρ c main_arg2) (V1 m ρ c main_v4) (V1 m ρ c main_v1) (V1 m ρ c main_v3) (V1 m ρ c main_v6) (V1 m ρ c main_v5)
    = headM (arg m c main_arg2) (arg m c main_arg3) (arg m c main_arg4) (arg m c main_arg5) (arg m c main_arg6) := by
  funext i
  unfold headK headM
  have h2 : V1 m ρ c main_arg2 = arg m c main_arg2 := W1_args m ρ c main_arg2 (by decide)
  simp only [h2]
  congr 1
  · exact funext fun d => v1_at _ i d
  · exact funext fun d => v3_at _ i d
  · exact funext fun d => funext fun e => v4_at _ i d e
  · exact v5_at _ i
  · exact v6_at _ i

/-- The first call's array. -/
theorem sums_eq : V2 m ρ c main_v7 = Sums.G (arg m c main_arg0) (arg m c main_arg1) := by
  refine (W2_arr m ρ c 2).trans ((Sums.final _ c).trans ?_)
  congr 1 <;> exact W1_args m ρ c _ (by decide)

/-- The second call's array. -/
theorem once_eq : V3 m ρ c main_v8 = Pool1.G (arg m c main_arg0) (arg m c main_arg1) (V2 m ρ c main_v7)
    (headM (arg m c main_arg2) (arg m c main_arg3) (arg m c main_arg4) (arg m c main_arg5) (arg m c main_arg6)) := by
  refine (W3_arr m ρ c 9).trans ((Pool1.final _ c).trans ?_)
  rw [← heads_eq m ρ c]
  congr 1
  · exact W2_args m ρ c _ (by decide)
  · exact W2_args m ρ c _ (by decide)

/-- The third call's array. -/
theorem twice_eq : V4 m ρ c main_v9 = Pool2.G (arg m c main_arg0) (arg m c main_arg1) (V2 m ρ c main_v7) (V3 m ρ c main_v8)
    (headM (arg m c main_arg2) (arg m c main_arg3) (arg m c main_arg4) (arg m c main_arg5) (arg m c main_arg6)) := by
  refine (W4_arr m ρ c 10).trans ((Pool2.final _ c).trans ?_)
  rw [← heads_eq m ρ c]
  congr 1
  · exact W3_args m ρ c _ (by decide)
  · exact W3_args m ρ c _ (by decide)
  · exact W3_of m ρ c _ (by decide)
  · congr 1 <;> exact (W3_of m ρ c _ (by decide)).trans (W2_of m ρ c _ (by decide))

/-- The embeddings in the third call's array. -/
theorem emb_eq (i : Fin 8) (s h : Fin 2) (d : Fin 128) : (V4 m ρ c main_v9 : S8x2x2x128.Idx → EReal) (ix4 i s h d) =
    emb (headM (arg m c main_arg2) (arg m c main_arg3) (arg m c main_arg4) (arg m c main_arg5) (arg m c main_arg6) h)
      (fun n d => side (arg m c main_arg0) (arg m c main_arg1) s (ix3 i n d)) d := by
  rw [twice_eq, once_eq, sums_eq]
  exact calls_eq _ _ _ i s h d

/-- The kernel's result for pair `i`: the projections of the normalized slices of the two graphs' embeddings. -/
theorem result_at (i : Fin 8) : (V6 m ρ c main_v16 : S8x1.Idx → EReal) (ix2 i 0) =
    projs (fun a b => arg m c main_arg10 (ix2 a b)) (fun a b => arg m c main_arg11 (ix2 a b)) (fun a b => arg m c main_arg12 (ix2 a b))
      (fun a b => arg m c main_arg13 (ix2 a b))
      (normed (slices (fun f k => arg m c main_arg7 (ix2 f k)) (fun f d e => arg m c main_arg8 (ix3 f d e)) (fun f => arg m c main_arg9 (ix1 f))
        (pack fun j => emb (headM (arg m c main_arg2) (arg m c main_arg3) (arg m c main_arg4) (arg m c main_arg5) (arg m c main_arg6) j)
          fun n d => arg m c main_arg0 (ix3 i n d))
        (pack fun j => emb (headM (arg m c main_arg2) (arg m c main_arg3) (arg m c main_arg4) (arg m c main_arg5) (arg m c main_arg6) j)
          fun n d => arg m c main_arg1 (ix3 i n d)))) := by
  have hg (s : Fin 2) (k : Fin 256) : (V4 m ρ c main_v9 : S8x2x2x128.Idx → EReal) (ix4 i s (⟨k.val / 128, by omega⟩ : Fin 2) (⟨k.val % 128, by omega⟩ : Fin 128)) =
      pack (fun j => emb (headM (arg m c main_arg2) (arg m c main_arg3) (arg m c main_arg4) (arg m c main_arg5) (arg m c main_arg6) j)
        fun n d => side (arg m c main_arg0) (arg m c main_arg1) s (ix3 i n d)) k := by
    rw [pack_eq, emb_eq]
  have h1 (k : Fin 256) : (V5 m ρ c main_v12 : S8x256.Idx → EReal) (ix2 i k) = _ := (v12_at _ i k).trans (hg 0 k)
  have h2 (k : Fin 256) : (V5 m ρ c main_v14 : S8x256.Idx → EReal) (ix2 i k) = _ := (v14_at _ i k).trans (hg 1 k)
  have hb (f : Fin 16) : (V5 m ρ c main_v15 : S1x16.Idx → EReal) (ix2 0 f) = arg m c main_arg9 (ix1 f) :=
    (v15_at _ f).trans (congrFun (W4_args m ρ c main_arg9 (by decide)) _)
  refine (congrFun ((W6_arr m ρ c 9).trans (Head.final _ c)) (ix2 i 0)).trans ?_
  have e (b : Ref sig .tc) (h : b ∈ argRefs) : V5 m ρ c b = arg m c b := W5_args m ρ c b h
  rw [e main_arg7 (by decide), e main_arg8 (by decide), e main_arg10 (by decide), e main_arg11 (by decide), e main_arg12 (by decide),
    e main_arg13 (by decide)]
  unfold Head.G
  simp only [hb]
  simp only [show ∀ k, (V5 m ρ c main_v12 : S8x256.Idx → EReal) (ix2 ((ix2 i 0 : S8x1.Idx) 0) k) = _ from h1,
    show ∀ k, (V5 m ρ c main_v14 : S8x256.Idx → EReal) (ix2 ((ix2 i 0 : S8x1.Idx) 0) k) = _ from h2]
  rfl

end Cert.Values
-- ==== Proof.Run.lean ====
/- The idealized kernel's run, with the contents its result array ends with. -/
module

public import proofs.«01_k».proof.Proof.Values

@[expose] public section

set_option maxRecDepth 16384

noncomputable section

namespace Cert.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The kernel runs to its end; the result array then holds what the last boundary says, the arguments what they held. -/
theorem run : θ_run defs (onTc (τ := τ) (main (F := F))) ⟨m, fun _ => 0, ρ⟩ (fun r => ∀ c : Dev nD,
      r.2.mem ((c.tc : Thread nD τ).loc main_v16) = W6 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v16 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.Run
-- ==== Proof.lean ====
/- The certificate of the kernel `anpm` (four Pallas regions: the sums over the nodes, two attention poolings, the head)
   against its reference. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefHead
public import proofs.«01_k».proof.Proof.Run
public import Idealize.ShloMosaic.Adequacy
public import Idealize.ShloMosaic.Init

@[expose] public section

noncomputable section

namespace Cert.Proof

open Idealize.ShloMosaic Idealize.SL.Sem

/-- The kernel runs on words, ends, and leaves its arguments and every counter as they were. -/
theorem frame_kernel : Cert.quiescent_Kernel := fun m ρ _ => Cert.Kernel.Gen.frame m ρ

/-- The same of the idealized kernel. -/
theorem frame_kernelIdeal : Cert.quiescent_KernelIdeal := fun m ρ _ => Cert.KernelIdeal.Gen.frame m ρ

/-- The same of the reference, which declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one literal named by the idealization is the rational it is named after, up to rounding. -/
theorem preserves : Cert.preserves_Kernel_KernelIdeal :=
  IdealRules.named_const.statement Cert.KernelIdeal.κ "inv_n" .f32 0x3727C5AC#32 ((1 / 100000 : ℝ) : EReal) rfl

/-- The reference's result, from the kernel's arguments, is what the kernel's result array ends with: pair by pair, both are
    the projections of the normalized slices of the two graphs' embeddings. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v394 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
    = Cert.KernelIdeal.Gen.V6 m ρ c Cert.KernelIdeal.main_v16 := by
  funext j
  obtain ⟨i, a, rfl⟩ : ∃ (i : Fin 8) (a : Fin 1), j = ix2 i a := ⟨j 0, j 1, eq_ix2 j⟩
  obtain rfl : a = 0 := Subsingleton.elim _ _
  exact (Cert.RefAtt.result_at _ _ _ _ _ _ _ _ _ _ _ _ _ _ i).trans (Cert.Values.result_at m ρ c i).symm

/-- From the same arguments the idealized kernel and the idealized reference end with the same result. -/
theorem algebraic : Cert.algebraic_KernelIdeal_ReferenceIdeal := by
  intro m g m' g' _ hargs
  refine ⟨fun c => Cert.KernelIdeal.Gen.V6 m g c Cert.KernelIdeal.main_v16, Cert.Run.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v394_eq (F := Ideal) _).trans (Eq.trans ?_ (result_eq m g c)))
  obtain ⟨h0, h1, h2, h3, h4, h5, h6, h7, h8, h9, h10, h11, h12, h13⟩ := hargs c
  rw [← h0, ← h1, ← h2, ← h3, ← h4, ← h5, ← h6, ← h7, ← h8, ← h9, ← h10, ← h11, ← h12, ← h13]

/-- Everything claimed. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
